-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S6x256x512 : Shape := ⟨3, ![6, 256, 512]⟩
abbrev S6 : Shape := ⟨1, ![6]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S256x1024, .f32⟩
  | .local _ .vmem, ⟨0, _⟩ => ⟨S1024x256, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .f32⟩
  | .local _ .vmem, ⟨4, _⟩ => ⟨S6x256x512, .bf16⟩
  | .local _ .vmem, ⟨5, _⟩ => ⟨S6x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c2_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_13
  let c4_i32_14 : BitVec 32 := 4#32
  let v18 : BitVec 32 := Scalar.remsi v17 c4_i32_14
  let c256_i32_15 : BitVec 32 := 256#32
  let v19 : BitVec 32 := Scalar.muli v18 c256_i32_15
  let v23 : Index := Scalar.indexCast v19
  let c0 : Index := 0#32
  ![v23.toNat, 0]
def k0_off2 (d0 : Dev nD) (c2_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_13
  let c4_i32_14 : BitVec 32 := 4#32
  let v18 : BitVec 32 := Scalar.remsi v17 c4_i32_14
  let c256_i32_15 : BitVec 32 := 256#32
  let v19 : BitVec 32 := Scalar.muli v18 c256_i32_15
  let v29 : Index := Scalar.indexCast v19
  let c0_20 : Index := 0#32
  ![v29.toNat, 0]
def k0_off3 (d0 : Dev nD) (c2_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_13
  let c4_i32_14 : BitVec 32 := 4#32
  let v18 : BitVec 32 := Scalar.remsi v17 c4_i32_14
  let c256_i32_15 : BitVec 32 := 256#32
  let v19 : BitVec 32 := Scalar.muli v18 c256_i32_15
  let v33 : Index := Scalar.indexCast v19
  let c0_21 : Index := 0#32
  ![v33.toNat, 0]
def k0_off4 (d0 : Dev nD) (c2_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_13
  let c4_i32_14 : BitVec 32 := 4#32
  let v18 : BitVec 32 := Scalar.remsi v17 c4_i32_14
  let c256_i32_15 : BitVec 32 := 256#32
  let v19 : BitVec 32 := Scalar.muli v18 c256_i32_15
  let v39 : Index := Scalar.indexCast v19
  let c512 : Index := 512#32
  ![v39.toNat, 512]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_31 : BitVec 32 := 1#32
  let v45 : BitVec 32 := Scalar.muli v4 c1_i32_31
  let v46 : BitVec 32 := Scalar.addi c0_i32_32 v45
  v46.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_41 : BitVec 32 := 1#32
  let v55 : BitVec 32 := Scalar.muli v7 c1_i32_41
  let v56 : BitVec 32 := Scalar.addi c0_i32_42 v55
  v56.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_59 : BitVec 32 := 1#32
  let v81 : BitVec 32 := Scalar.muli v4 c1_i32_59
  let v82 : BitVec 32 := Scalar.addi c0_i32_60 v81
  v82.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_77 : BitVec 32 := 1#32
  let v107 : BitVec 32 := Scalar.muli v7 c1_i32_77
  let v108 : BitVec 32 := Scalar.addi c0_i32_78 v107
  v108.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v117 : Index := Scalar.indexCast v13
  let c0_83 : Index := 0#32
  ![v117.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v123 : Index := Scalar.indexCast v13
  let c0_87 : Index := 0#32
  ![v123.toNat, 0]
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_108 : BitVec 32 := 1#32
  let v145 : BitVec 32 := Scalar.muli v4 c1_i32_108
  let v146 : BitVec 32 := Scalar.addi c0_i32_109 v145
  v146.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_133 : BitVec 32 := 1#32
  let v173 : BitVec 32 := Scalar.muli v7 c1_i32_133
  let v174 : BitVec 32 := Scalar.addi c0_i32_134 v173
  v174.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v199 : Index := Scalar.indexCast v13
  let c0_159 : Index := 0#32
  ![v199.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v238 : Index := Scalar.indexCast v13
  let c512_193 : Index := 512#32
  ![v238.toNat, 512]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.KernelIdeal.Protocol.lean ====
/-
# The protocol of the four-device ring

Device `c` talks to `nxt c` (one up) and `prv c` (one down) only. It owns six send slots (`so`) and six landing
slots (`ri`), one pair of transfer semaphores per slot, and the barrier semaphore. Slot `j` of a device always goes to
the same neighbour: up for even `j`, down for odd `j`. So a device's landing slots 0, 2, 4 are filled by `prv` and 1, 3, 5
by `nxt`. The handshake at the start hands the landing slots over to the devices that fill them.

Every semaphore cell has one round. The barrier cell of `c` has two duties: `true`, paid by `nxt c`, brings the landing
slots 0, 2, 4 of `nxt c`; `false`, paid by `prv c`, brings the landing slots 1, 3, 5 of `prv c`. A transfer cell has one
duty; the send cell's payload is the send slot itself, the receive cell's is the landing slot holding what was sent.

The contents of every slot are fixed here as functions of the launch memory, over any model of the floats.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state: the rounds of the semaphore cells, duties named by `Bool`. -/
abbrev RingU : Type := URounds (GSem nD τ sig) Bool
/-- The pipeline's ghost state beside the ring's. -/
abbrev GhostU : Type := UR sig nD τ × RingU

local notation "𝕄" => MT nD τ sig Unit (Elt F) ℕ GhostU ℕ

/-- Where the pipeline's ghost state lies. -/
abbrev EPipe : Emb (UR sig nD τ) (MT nD τ sig Unit (Elt F) ℕ GhostU ℕ) := embL
/-- Where the ring's ghost state lies. -/
abbrev ERing : Emb RingU (MT nD τ sig Unit (Elt F) ℕ GhostU ℕ) := embR

variable (m : (ℓ : Loc nD τ sig) → Buf (Elt F) ℓ)

/-! ## Devices -/

set_option backward.proofsInPublic true in
/-- The device `r` places up the ring from `c`. -/
def up (c : Dev nD) (r : ℕ) : Dev nD := ⟨(c.val + r) % 4, Nat.mod_lt _ (by decide)⟩

/-- The next device up the ring. -/
abbrev nxt (c : Dev nD) : Dev nD := up c 1
/-- The next device down the ring. -/
abbrev prv (c : Dev nD) : Dev nD := up c 3

/-- Down and up again is where one started; -/
theorem nxt_prv (c : Dev nD) : nxt (prv c) = c := by revert c; decide
/-- up and down again too. -/
theorem prv_nxt (c : Dev nD) : prv (nxt c) = c := by revert c; decide

/-- Where slot `j` of device `c` is sent: up for an even slot, down for an odd one. -/
def dest (j : Fin 6) (c : Dev nD) : Dev nD := if j.val % 2 = 0 then nxt c else prv c
/-- Which device fills landing slot `j` of device `c`. -/
def from_ (j : Fin 6) (c : Dev nD) : Dev nD := if j.val % 2 = 0 then prv c else nxt c

/-- The device a slot is sent to has it from the sender; -/
theorem from_dest (j : Fin 6) (c : Dev nD) : from_ j (dest j c) = c := by revert j c; decide
/-- and the device that fills a landing slot sends there. -/
theorem dest_from (j : Fin 6) (c : Dev nD) : dest j (from_ j c) = c := by revert j c; decide

/-- Slot `j`'s way around the ring, as a permutation of the devices. -/
def way (j : Fin 6) : Dev nD ≃ Dev nD := ⟨dest j, from_ j, from_dest j, dest_from j⟩

/-- One place up, as a permutation of the devices. -/
def ringUp : Dev nD ≃ Dev nD := ⟨nxt, prv, prv_nxt, nxt_prv⟩

/-! ## Buffers, slots and semaphores -/

/-- The staged block of `x`, -/
abbrev xM : Memref sig .tc .vmem S1024x256 .bf16 := Memref.whole cc0_stg0_0
/-- the staged block of `w`, -/
abbrev wM : Memref sig .tc .vmem S256x1024 .bf16 := Memref.whole cc0_stg1_0
/-- the staged result, -/
abbrev oM : Memref sig .tc .vmem S256x1024 .f32 := Memref.whole cc0_stg2_0
/-- the partial products, -/
abbrev pM : Memref sig .tc .vmem S1024x1024 .f32 := Memref.whole cc0_scratch0
/-- the send slots -/
abbrev soM : Memref sig .tc .vmem S6x256x512 .bf16 := Memref.whole cc0_scratch1
/-- and the landing slots. -/
abbrev riM : Memref sig .tc .vmem S6x256x512 .bf16 := Memref.whole cc0_scratch2

/-- Slot `j` lies inside the six slots. -/
theorem slot_inb (j : Fin 6) : ∀ a, (![j.val, 0, 0] : Fin 3 → Nat) a + S1x256x512.size a ≤ S6x256x512.size a := by
  revert j; decide

/-- The rectangle of slot `j`. -/
abbrev slotR (j : Fin 6) : Rect S6x256x512 := Rect.unit (s := S6x256x512) ![j.val, 0, 0] S1x256x512.size (slot_inb j)

/-- Send slot `j`, -/
abbrev soS (j : Fin 6) : Memref sig .tc .vmem S1x256x512 .bf16 := soM.slice (slotR j) (fun _ => rfl)
/-- landing slot `j`, -/
abbrev riS (j : Fin 6) : Memref sig .tc .vmem S1x256x512 .bf16 := riM.slice (slotR j) (fun _ => rfl)
/-- and both as matrices, as a transfer names them. -/
abbrev soQ (j : Fin 6) : Memref sig .tc .vmem S256x512 .bf16 := (soS j).squeeze S256x512 squeezes_S1x256x512_S256x512
/-- The landing slot as a matrix. -/
abbrev riQ (j : Fin 6) : Memref sig .tc .vmem S256x512 .bf16 := (riS j).squeeze S256x512 squeezes_S1x256x512_S256x512

set_option backward.proofsInPublic true in
/-- Slot `j`'s send semaphore. -/
def sSem (j : Fin 6) : DmaSem sig := ⟨3 + j.val, by revert j; decide⟩
set_option backward.proofsInPublic true in
/-- Slot `j`'s receive semaphore. -/
def vSem (j : Fin 6) : DmaSem sig := ⟨9 + j.val, by revert j; decide⟩

/-- The barrier semaphore of the runtime. -/
abbrev barS : Sem sig := (SemArray.scalar (sig.barrier 0 rfl) : Sems sig S_).sem

/-- The barrier cell of device `c`, -/
abbrev barCell (c : Dev nD) : GSem nD τ sig := ((c : Thread nD τ), .reg barS)
/-- the send cell of its slot `j` -/
abbrev sCell (c : Dev nD) (j : Fin 6) : GSem nD τ sig := ((c : Thread nD τ), .dma (sSem j))
/-- and the receive cell. -/
abbrev vCell (c : Dev nD) (j : Fin 6) : GSem nD τ sig := ((c : Thread nD τ), .dma (vSem j))

/-- What one transfer of a slot credits. -/
abbrev N : ℕ := (riQ 0).view.dmaCredit
/-- A transfer credits something. -/
theorem N_pos : 0 < N := View.dmaCredit_pos _ (by decide)

/-! ## Contents -/

/-- A block of 256 rows of `x` lies inside `x`; -/
theorem xrow_inb (k : Dev nD) : ∀ a, (![256 * k.val, 0] : Fin 2 → Nat) a + S256x256.size a ≤ S1024x256.size a := by
  revert k; decide
/-- a block of 256 rows of the products inside the products. -/
theorem prow_inb (k : Dev nD) : ∀ a, (![256 * k.val, 0] : Fin 2 → Nat) a + S256x1024.size a ≤ S1024x1024.size a := by
  revert k; decide

/-- The rectangle of `x`'s rows `256 k ...`. -/
abbrev xrowR (k : Dev nD) : Rect S1024x256 := Rect.unit (s := S1024x256) ![256 * k.val, 0] S256x256.size (xrow_inb k)
/-- The rectangle of the products' rows `256 k ...`. -/
abbrev prowR (k : Dev nD) : Rect S1024x1024 := Rect.unit (s := S1024x1024) ![256 * k.val, 0] S256x1024.size (prow_inb k)

/-- Rows `256 k ...` of a staged block of `x`. -/
def xrows (X : Vec F S1024x256 .bf16) (k : Dev nD) : Vec F S256x256 .bf16 := fun i => X ((xrowR k).emb i)
/-- Rows `256 k ...` of the products. -/
def chunk (f : Vec F S1024x1024 .f32) (k : Dev nD) : Vec F S256x1024 .f32 := fun i => f ((prowR k).emb i)

/-- The left half of a 256 x 1024 matrix, as a rectangle; -/
abbrev lhalfR : Rect S256x1024 := Rect.unit (s := S256x1024) ![0, 0] S256x512.size inb_S256x1024_S256x512_0_0
/-- the right half. -/
abbrev rhalfR : Rect S256x1024 := Rect.unit (s := S256x1024) ![0, 512] S256x512.size inb_S256x1024_S256x512_0_512
/-- Columns 0 to 511. -/
def lhalf (P : Vec F S256x1024 .f32) : Vec F S256x512 .f32 := fun i => P (lhalfR.emb i)
/-- Columns 512 to 1023. -/
def rhalf (P : Vec F S256x1024 .f32) : Vec F S256x512 .f32 := fun i => P (rhalfR.emb i)

/-- Device `c`'s block of `x` as staged; -/
def xs (c : Dev nD) : Vec F S1024x256 .bf16 :=
  (win0_0.blk (0 : Fin 1)).view.read (Elt F) (m ((c : Thread nD τ).loc main_arg0))
/-- its block of `w`. -/
def ws (c : Dev nD) : Vec F S256x1024 .bf16 :=
  (win0_1.blk (0 : Fin 1)).view.read (Elt F) (m ((c : Thread nD τ).loc main_arg1))

/-- Device `c`'s partial product for the rows of device `k`. -/
def part (c k : Dev nD) : Vec F S256x1024 .f32 := k0_pay3 (k0_pay1 (xrows (xs m c) k)) (k0_pay2 (ws m c))

/-- What device `c` sends from slot `j` of the first four: pieces of its own partial products, rounded. -/
def first (j : Fin 6) (c : Dev nD) : Vec F S1x256x512 .bf16 :=
  if j = 0 then k0_pay4 (lhalf (part m c (up c 2)))
  else if j = 1 then k0_pay5 (rhalf (part m c (up c 2)))
  else if j = 2 then k0_pay7 (rhalf (part m c (up c 1)))
  else k0_pay9 (lhalf (part m c (up c 3)))

/-- What device `c` sends from slot `j`: slots 4 and 5 pass on what came in slots 0 and 1, with the device's own part added. -/
def sent (j : Fin 6) (c : Dev nD) : Vec F S1x256x512 .bf16 :=
  if j = 4 then k0_pay12 (lhalf (part m c (up c 1))) (first m 0 (prv c))
  else if j = 5 then k0_pay13 (rhalf (part m c (up c 3))) (first m 1 (nxt c))
  else first m j c

/-- What lands in slot `j` of device `c`. -/
def landed (j : Fin 6) (c : Dev nD) : Vec F S1x256x512 .bf16 := sent m j (from_ j c)

/-- The left half of device `c`'s result; -/
def outL (c : Dev nD) : Vec F S256x512 .f32 :=
  k0_pay17 (k0_pay14 (lhalf (part m c c)) (landed m 3 c) (landed m 4 c))
    (k0_pay15 (lhalf (part m c c)) (landed m 3 c) (landed m 4 c)) k0_pay16
/-- the right half. -/
def outR (c : Dev nD) : Vec F S256x512 .f32 := k0_pay18 (rhalf (part m c c)) (landed m 2 c) (landed m 5 c)

set_option backward.proofsInPublic true in
/-- Device `c`'s result. -/
def outAt (c : Dev nD) : Vec F S256x1024 .f32 := fun i =>
  if h : (i 1).val < 512 then outL m c (ValueIdx.ix2 ⟨(i 0).val, (i 0).isLt⟩ ⟨(i 1).val, h⟩)
  else outR m c (ValueIdx.ix2 ⟨(i 0).val, (i 0).isLt⟩ ⟨(i 1).val - 512, by have : (i 1).val < 1024 := (i 1).isLt; show _ < 512; omega⟩)

/-! ## The schedule -/

/-- Send slot `j` of `c` holding `X`; -/
abbrev soHas (c : Dev nD) (j : Fin 6) (X : Vec F S1x256x512 .bf16) : sProp 𝕄 := owns (c : Thread nD τ) (soS j) fullShare X
/-- landing slot `j` of `c` holding `X`; -/
abbrev riHas (c : Dev nD) (j : Fin 6) (X : Vec F S1x256x512 .bf16) : sProp 𝕄 := owns (c : Thread nD τ) (riS j) fullShare X
/-- send slot `j` of `c`, whatever it holds; -/
def soAny (c : Dev nD) (j : Fin 6) : sProp 𝕄 := iprop(∃ X, soHas c j X)
/-- landing slot `j` of `c`, whatever it holds. -/
def riAny (c : Dev nD) (j : Fin 6) : sProp 𝕄 := iprop(∃ X, riHas c j X)

omit [FloatOps F] in
instance riAny_storable (c : Dev nD) (j : Fin 6) : BI.Storable (upEmb : UEmb _ 𝕄) (riAny (F := F) c j) := by
  unfold riAny; infer_instance

/-- What a signal to `c`'s barrier brings: the landing slots `c` will fill, from `nxt c` (`true`) or from `prv c`. -/
def grant (c : Dev nD) (d : Bool) : sProp 𝕄 :=
  if d then iprop(riAny (nxt c) 0 ∗ riAny (nxt c) 2 ∗ riAny (nxt c) 4)
  else iprop(riAny (prv c) 1 ∗ riAny (prv c) 3 ∗ riAny (prv c) 5)

set_option backward.proofsInPublic true in
/-- What a transfer cell's duty brings: the slot of its semaphore. -/
def slotPay (c : Dev nD) (q : DmaSem sig) : sProp 𝕄 :=
  if h : q.val < 3 then iprop(emp)
  else if h : q.val < 9 then soHas c ⟨q.val - 3, by omega⟩ (sent m ⟨q.val - 3, by omega⟩ c)
  else riHas c ⟨q.val - 9, by have : q.val < 15 := q.isLt; omega⟩ (landed m ⟨q.val - 9, by have : q.val < 15 := q.isLt; omega⟩ c)

/-- The schedule: one round; two duties of one unit at a barrier cell, one duty of a transfer's credit at a transfer cell. -/
def rd : Rounds.Schedule (GSem nD τ sig) Bool 𝕄 where
  duties g r := if r = 0 ∧ g.1.2 = .tc then
      (match g.2 with
        | .reg _ => Finset.univ
        | .dma q => if q.val < 3 then ∅ else {false})
    else ∅
  unitless _ := False
  amount g _ _ := match g.2 with
    | .reg _ => 1
    | .dma _ => N
  payload g _ d := match g.2 with
    | .reg _ => grant g.1.1 d
    | .dma q => slotPay m g.1.1 q
  amount_pos g _ _ _ := by
    rcases g with ⟨th, sm⟩
    cases sm
    · exact Nat.one_pos
    · exact N_pos

instance rd_payload_storable (g : GSem nD τ sig) (r : ℕ) (d : Bool) :
    BI.Storable (upEmb : UEmb _ 𝕄) ((rd (F := F) m).payload g r d) := by
  rcases g with ⟨th, sm⟩
  cases sm with
  | reg s =>
    show BI.Storable upEmb (grant th.1 d)
    unfold grant
    split <;> infer_instance
  | dma q =>
    show BI.Storable upEmb (slotPay m th.1 q)
    unfold slotPay
    (repeat' split) <;> infer_instance

section Sched
variable (c : Dev nD) (j : Fin 6)

omit [FloatOps F] in
theorem three_le_sSem : ¬ (sSem j).val < 3 := by revert j; decide
omit [FloatOps F] in
theorem three_le_vSem : ¬ (vSem j).val < 3 := by revert j; decide

theorem duties_bar : (rd (F := F) m).duties (barCell c) 0 = Finset.univ := by dsimp only [rd]; exact if_pos ⟨rfl, rfl⟩
theorem duties_s : (rd (F := F) m).duties (sCell c j) 0 = {false} := by
  dsimp only [rd]; exact (if_pos ⟨rfl, rfl⟩).trans (if_neg (three_le_sSem j))
theorem duties_v : (rd (F := F) m).duties (vCell c j) 0 = {false} := by
  dsimp only [rd]; exact (if_pos ⟨rfl, rfl⟩).trans (if_neg (three_le_vSem j))
theorem duties_later (g : GSem nD τ sig) : ∀ r, 1 ≤ r → (rd (F := F) m).duties g r = ∅ :=
  fun r hr => by dsimp only [rd]; rw [if_neg fun h => by omega]

theorem expect_bar : (rd (F := F) m).expect (barCell c) 0 = 2 := by
  unfold Schedule.expect Schedule.amountOf
  rw [duties_bar]; rfl
theorem expect_s : (rd (F := F) m).expect (sCell c j) 0 = N := by
  unfold Schedule.expect Schedule.amountOf; rw [duties_s, Finset.sum_singleton]; rfl
theorem expect_v : (rd (F := F) m).expect (vCell c j) 0 = N := by
  unfold Schedule.expect Schedule.amountOf; rw [duties_v, Finset.sum_singleton]; rfl

theorem payload_s (d : Bool) : (rd (F := F) m).payload (sCell c j) 0 d = soHas c j (sent m j c) := by
  show slotPay m c (sSem j) = _
  unfold slotPay
  fin_cases j <;> rfl
theorem payload_v (d : Bool) : (rd (F := F) m).payload (vCell c j) 0 d = riHas c j (landed m j c) := by
  show slotPay m c (vSem j) = _
  unfold slotPay
  fin_cases j <;> rfl

/-- What waiting for both units of the barrier brings: six landing slots of the two neighbours. -/
theorem rest_bar : bigSep ((rd (F := F) m).duties (barCell c) 0 \ ∅) (fun d => (rd (F := F) m).payload (barCell c) 0 d)
    = iprop(grant c false ∗ grant c true) := by
  rw [Finset.sdiff_empty, duties_bar, bigSep_univ_eq_bigSepL [false, true] (by decide) (by decide), bigSepL_cons_cons, bigSepL_singleton]
  rfl
/-- What waiting at a send cell brings: the slot back. -/
theorem rest_s : bigSep ((rd (F := F) m).duties (sCell c j) 0 \ ∅) (fun d => (rd (F := F) m).payload (sCell c j) 0 d)
    = soHas c j (sent m j c) := by
  rw [Finset.sdiff_empty, duties_s, bigSep_singleton, payload_s]
/-- What waiting at a receive cell brings: the landing slot, filled. -/
theorem rest_v : bigSep ((rd (F := F) m).duties (vCell c j) 0 \ ∅) (fun d => (rd (F := F) m).payload (vCell c j) 0 d)
    = riHas c j (landed m j c) := by
  rw [Finset.sdiff_empty, duties_v, bigSep_singleton, payload_v]

end Sched

/-! ## Debts and levels -/

/-- What device `c` owes while the slots `l` are still to be sent. -/
def owed (c : Dev nD) : List (Fin 6) → CellTallies nD τ sig Unit
  | [] => 0
  | j :: l => owed c l + tallyAt (vCell (dest j c) j) () N

/-- All six slots, in the order they are sent. -/
abbrev allSlots : List (Fin 6) := [0, 1, 2, 3, 4, 5]

/-- What device `c` owes after its first signal, -/
def owed₁ (c : Dev nD) : CellTallies nD τ sig Unit := owed c allSlots + tallyAt (barCell (nxt c)) () 1
/-- and at launch. -/
def owed₀ (c : Dev nD) : CellTallies nD τ sig Unit := owed₁ c + tallyAt (barCell (prv c)) () 1

/-- The indices in use: one at every cell of a tensor core. -/
def L (g : GSem nD τ sig) : Finset Unit := if g.1.2 = .tc then {()} else ∅

/-- The order of the waits: staging and send cells lowest, then the barrier, then the first four receive cells, then the last two. -/
def lv (g : GSem nD τ sig) (_ : Unit) : ℕ := match g.2 with
  | .reg _ => 1
  | .dma q => if q.val < 9 then 0 else if q.val < 13 then 2 else 3

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A debt of the sends is a debt to the receive cell of a slot not sent yet. -/
theorem owed_pos (c : Dev nD) (l : List (Fin 6)) {g : GSem nD τ sig} {u : Unit} (h : 0 < owed c l g u) :
    ∃ j ∈ l, g = vCell (dest j c) j := by
  induction l with
  | nil => exact absurd h (Nat.lt_irrefl 0)
  | cons j l ih =>
    by_cases hg : g = vCell (dest j c) j
    · exact ⟨j, List.mem_cons_self .., hg⟩
    · unfold owed at h
      rw [Pi.add_apply, Finsupp.add_apply, tallyAt_apply, if_neg (fun h' => hg h'.1), Nat.add_zero] at h
      obtain ⟨j', hj', e⟩ := ih h
      exact ⟨j', List.mem_cons_of_mem _ hj', e⟩

/-- A debt in a sum with two units is in the sum or is one of the units. -/
theorem two_units_pos (O : CellTallies nD τ sig Unit) (g₁ g₂ : GSem nD τ sig) {g : GSem nD τ sig} {u : Unit}
    (h : 0 < (O + tallyAt g₁ () 1 + tallyAt g₂ () 1) g u) : 0 < O g u ∨ g = g₁ ∨ g = g₂ := by
  by_contra hn
  rw [not_or, not_or] at hn
  rw [Pi.add_apply, Finsupp.add_apply, Pi.add_apply, Finsupp.add_apply, tallyAt_apply, tallyAt_apply,
    if_neg (fun h' => hn.2.1 h'.1), if_neg (fun h' => hn.2.2 h'.1)] at h
  exact hn.1 h

/-- A debt at launch is to the receive cell of a slot or is one of the two signals. -/
theorem owed₀_pos (c : Dev nD) {g : GSem nD τ sig} {u : Unit} (h : 0 < owed₀ c g u) :
    (∃ j : Fin 6, g = vCell (dest j c) j) ∨ g = barCell (nxt c) ∨ g = barCell (prv c) := by
  refine (two_units_pos (owed c allSlots) (barCell (nxt c)) (barCell (prv c)) h).imp_left fun h' => ?_
  obtain ⟨j, -, e⟩ := owed_pos c allSlots h'
  exact ⟨j, e⟩

omit [FloatOps F] in
/-- A wait at a cell below everything owed is allowed. -/
theorem mayWait_below (c : Dev nD) (sm : SemLoc sig) (O : CellTallies nD τ sig Unit) (b : ℕ)
    (hsm : lv ((c : Thread nD τ), sm) () ≤ b) (hO : ∀ g u, 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in
/-- A wait at a cell below the receive cells of the slots still to be sent is allowed. -/
theorem mayWait_sends (c : Dev nD) (sm : SemLoc sig) (l : List (Fin 6)) (b : ℕ)
    (hsm : lv ((c : Thread nD τ), sm) () ≤ b) (hl : ∀ j ∈ l, b < lv (vCell c j) ()) :
    (levAts L lv : sProp 𝕄) ⊢ MayWait (c : Thread nD τ) sm () (owed c l) :=
  mayWait_below c sm _ b hsm fun g u hg => by
    obtain ⟨j, hj, rfl⟩ := owed_pos c l hg
    exact ⟨rfl, hl j hj⟩

omit [FloatOps F] in
/-- The waits at the staging cells are allowed at launch and at the end. -/
theorem mayWait_stage (c : Dev nD) (q : DmaSem sig) (hq : q.val < 9) (O : CellTallies nD τ sig Unit) (hO : O = owed₀ c ∨ O = 0) :
    (levAts L lv : sProp 𝕄) ⊢ MayWait (c : Thread nD τ) (.dma q) () O := by
  refine mayWait_below c _ O 0 (by dsimp only [lv]; rw [if_pos hq]) fun g u hg => ?_
  rcases hO with rfl | rfl
  · rcases owed₀_pos c hg with ⟨j, rfl⟩ | rfl | rfl
    · exact ⟨rfl, by clear hg; cases u; revert j c; decide⟩
    · exact ⟨rfl, Nat.one_pos⟩
    · exact ⟨rfl, Nat.one_pos⟩
  · exact absurd hg (Nat.lt_irrefl 0)

end Cert.KernelIdeal.Ring
-- ==== Proof.KernelIdeal.Steps.lean ====
/-
# The steps of one device's program

One lemma for each kind of effect in the body: the loads and stores of the staged blocks, of the partial products, of
the slots and of the result, a signal to a neighbour, the wait for both neighbours, a slot sent, and the waits for a
landing and for a slot to come back. Each says what the effect needs and what it leaves, at a symbolic device `c` and a
symbolic slot `j`.
-/
module

public import proofs.«01_k».proof.Proof.KernelIdeal.Protocol
public import Idealize.ShloMosaic.Lib.Writes

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ)

/-! ## The records every step may use -/

/-- A device's semaphore cells: the barrier, the six send cells, the six receive cells. -/
abbrev CellIx : Type := Unit ⊕ (Fin 6 ⊕ Fin 6)

/-- The semaphore of each. -/
abbrev csem : CellIx → SemLoc sig
  | .inl _ => .reg barS
  | .inr (.inl j) => .dma (sSem j)
  | .inr (.inr j) => .dma (vSem j)

/-- The cells of all devices. -/
abbrev kcell (ck : Dev nD × CellIx) : GSem nD τ sig := ((ck.1 : Thread nD τ), csem ck.2)

/-- What holds all along: every cell's invariant under the names `K`, every cell at round 0 at least, the levels. -/
def recs (K : Dev nD × CellIx → ℕ) : sProp 𝕄 :=
  iprop((bigSep Finset.univ fun ck : Dev nD × CellIx => cellInv ERing (rd m) (K ck) (kcell ck))
    ∗ (bigSep Finset.univ fun ck : Dev nD × CellIx => reached ERing (kcell ck) 0) ∗ levAts L lv)

instance recs_persistent (K : Dev nD × CellIx → ℕ) : BI.Persistent (recs m K) := by unfold recs; infer_instance

variable (K : Dev nD × CellIx → ℕ)

/-- One cell's invariant; -/
theorem recs_inv (ck : Dev nD × CellIx) : recs m K ⊢ cellInv ERing (rd m) (K ck) (kcell ck) := by
  unfold recs
  iintro ⟨H, -, -⟩
  iapply (show (bigSep Finset.univ fun ck : Dev nD × CellIx => (cellInv ERing (rd m) (K ck) (kcell ck) : sProp 𝕄)) ⊢ cellInv ERing (rd m) (K ck) (kcell ck)
    from bigSep_elim (Finset.mem_univ ck))
  iexact H
/-- one cell's round; -/
theorem recs_reached (ck : Dev nD × CellIx) : recs m K ⊢ reached ERing (kcell ck) 0 := by
  unfold recs
  iintro ⟨-, H, -⟩
  iapply (show (bigSep Finset.univ fun ck : Dev nD × CellIx => (reached ERing (kcell ck) 0 : sProp 𝕄)) ⊢ reached ERing (kcell ck) 0
    from bigSep_elim (Finset.mem_univ ck))
  iexact H
/-- the levels. -/
theorem recs_lev : recs m K ⊢ levAts L lv := by
  unfold recs
  iintro ⟨-, -, H⟩
  iexact H

/-- A program run on device `c`'s tensor core. -/
abbrev runs {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- Device `c`'s debts, whatever it waited for. -/
def owing (c : Dev nD) (O : CellTallies nD τ sig Unit) : sProp 𝕄 := iprop(∃ W, owes (c : Thread nD τ) O W)

variable {α : Type} (c : Dev nD)

/-! ## What a store leaves -/

omit [FloatOps F] in
/-- Rectangles that do not meet give views that do not meet. -/
theorem views_disjoint {sp : Space} {s : Shape} {e : EltTy} (v : View sig .tc sp s e) {r r' : Rect s} (h : Disjoint r.set r'.set) :
    Disjoint (v.slice r).set ((v.slice r').setOn Finset.univ) := by
  rw [View.setOn_univ, View.set_slice, View.set_slice]
  exact (Finset.disjoint_map _).mpr h

omit [FloatOps F] in
/-- The rows of two devices do not meet. -/
theorem prow_disjoint {k k' : Dev nD} (h : k ≠ k') : Disjoint (prowR k).set (prowR k').set := by
  refine Rect.unit_disjoint (0 : Fin 2) ?_
  have hne : k.val ≠ k'.val := fun e => h (Fin.ext e)
  show 256 * k.val + 256 ≤ 256 * k'.val ∨ 256 * k'.val + 256 ≤ 256 * k.val
  omega

omit [FloatOps F] in
/-- The two halves do not meet. -/
theorem halves_disjoint : Disjoint lhalfR.set rhalfR.set := Rect.unit_disjoint (1 : Fin 2) (by decide)

/-- The products after the rows of device `k` are stored; -/
abbrev pPut (f : Vec F S1024x1024 .f32) (k : Dev nD) (w : Vec F S256x1024 .f32) : Vec F S1024x1024 .f32 :=
  ((pM : Memref sig .tc .vmem S1024x1024 .f32).access (prowR k)).write (Elt F) f w Finset.univ
/-- the result after its left half is stored; -/
abbrev oPutL (f : Vec F S256x1024 .f32) (w : Vec F S256x512 .f32) : Vec F S256x1024 .f32 :=
  ((oM : Memref sig .tc .vmem S256x1024 .f32).access lhalfR).write (Elt F) f w Finset.univ
/-- after its right half is. -/
abbrev oPutR (f : Vec F S256x1024 .f32) (w : Vec F S256x512 .f32) : Vec F S256x1024 .f32 :=
  ((oM : Memref sig .tc .vmem S256x1024 .f32).access rhalfR).write (Elt F) f w Finset.univ

omit [FloatOps F] in
theorem chunk_read (f : Vec F S1024x1024 .f32) (k : Dev nD) :
    chunk f k = ((pM : Memref sig .tc .vmem S1024x1024 .f32).access (prowR k)).read (Elt F) f := rfl
omit [FloatOps F] in
theorem lhalf_read (f : Vec F S256x1024 .f32) :
    lhalf f = ((oM : Memref sig .tc .vmem S256x1024 .f32).access lhalfR).read (Elt F) f := rfl
omit [FloatOps F] in
theorem rhalf_read (f : Vec F S256x1024 .f32) :
    rhalf f = ((oM : Memref sig .tc .vmem S256x1024 .f32).access rhalfR).read (Elt F) f := rfl

omit [FloatOps F] in
/-- The stored rows are what was stored; -/
theorem chunk_put (f : Vec F S1024x1024 .f32) (k : Dev nD) (w : Vec F S256x1024 .f32) : chunk (pPut f k w) k = w := by
  rw [chunk_read]
  exact View.read_write_univ (Val := Elt F) (v := (pM : Memref sig .tc .vmem S1024x1024 .f32).access (prowR k)) f w
omit [FloatOps F] in
/-- the others are what they were. -/
theorem chunk_put_ne (f : Vec F S1024x1024 .f32) {k k' : Dev nD} (h : k ≠ k') (w : Vec F S256x1024 .f32) : chunk (pPut f k' w) k = chunk f k := by
  rw [chunk_read, chunk_read]
  exact View.read_slice_write_slice_of_disjoint (Val := Elt F) (v := (pM : Memref sig .tc .vmem S1024x1024 .f32).view) (prowR k) (prowR k') f w Finset.univ
    (views_disjoint _ (prow_disjoint h))
omit [FloatOps F] in
theorem lhalf_putL (f : Vec F S256x1024 .f32) (w : Vec F S256x512 .f32) : lhalf (oPutL f w) = w := by
  rw [lhalf_read]
  exact View.read_write_univ (Val := Elt F) (v := (oM : Memref sig .tc .vmem S256x1024 .f32).access lhalfR) f w
omit [FloatOps F] in
theorem rhalf_putR (f : Vec F S256x1024 .f32) (w : Vec F S256x512 .f32) : rhalf (oPutR f w) = w := by
  rw [rhalf_read]
  exact View.read_write_univ (Val := Elt F) (v := (oM : Memref sig .tc .vmem S256x1024 .f32).access rhalfR) f w
omit [FloatOps F] in
theorem lhalf_putR (f : Vec F S256x1024 .f32) (w : Vec F S256x512 .f32) : lhalf (oPutR f w) = lhalf f := by
  rw [lhalf_read, lhalf_read]
  exact View.read_slice_write_slice_of_disjoint (Val := Elt F) (v := (oM : Memref sig .tc .vmem S256x1024 .f32).view) lhalfR rhalfR f w Finset.univ
    (views_disjoint _ halves_disjoint)

/-! ## Slots -/

omit [FloatOps F] in
/-- Two contents that a slice reads alike. -/
theorem owns_open {cs : Space} {s : Shape} {e : EltTy} (M : Memref sig .tc cs s e) (q : PosShare TreeShare) (X : s.Idx → Elt F e) :
    (owns (c : Thread nD τ) M q X : sProp 𝕄)
      = iprop(∃ f : Buf (Elt F) (M.view.loc (c : Thread nD τ)), ⌜M.view.read (Elt F) f = X⌝ ∗ (M.view.loc (c : Thread nD τ) ↦[M.view.set]{q} f)) := rfl

/-- Loading an owned slice gives what it holds. -/
theorem step_load {Q : α → sProp 𝕄} {cs : CoreSpace} {s : Shape} {e : EltTy} (M : Memref sig .tc cs s e) (r : Rect s) (hr : ∀ a, r.stride a = 1)
    {hl : M.view.LoadsAt r.toLoadRect} {q : PosShare TreeShare} {X : r.shape.Idx → Elt F e}
    {k : (r.shape.Idx → Elt F e) → Prog (TpuEff nD τ sig (Elt F) Λ₀ .tc) α} :
    owns (c : Thread nD τ) (M.slice r hr) q X
      ⊢ iprop((owns (c : Thread nD τ) (M.slice r hr) q X -∗ runs c (k X) Q) -∗ runs c (.op (.load M r.toLoadRect hl) k) Q) := by
  rw [owns_open]
  iintro ⟨%f, %hf, H⟩ Hk
  iapply (wp_load_rect Variants.none (c : Thread nD τ) none Set.univ (m := M) (r := r) (S := (M.access r).set) (q := q) (f := f) (Finset.Subset.refl _)) $$ H
  iintro H
  rw [show (M.access r).read (Elt F) f = X from hf]
  iapply Hk
  iexists f
  isplitr; · ipureintro; exact hf
  iexact H

/-- Storing into an owned slice. -/
theorem step_store {Q : α → sProp 𝕄} {cs : CoreSpace} {s : Shape} {e : EltTy} (M : Memref sig .tc cs s e) (r : Rect s) (hr : ∀ a, r.stride a = 1)
    {X w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    owns (c : Thread nD τ) (M.slice r hr) fullShare X
      ⊢ iprop((owns (c : Thread nD τ) (M.slice r hr) fullShare w -∗ runs c (k ⟨⟩) Q) -∗ runs c (.op (.store M r w Finset.univ hx hm) k) Q) := by
  rw [owns_open, owns_open]
  iintro ⟨%f, %hf, H⟩ Hk
  iapply (wp_store Variants.none (c : Thread nD τ) none Set.univ (m := M) (r := r) (Mk := Finset.univ) (S := (M.access r).set) (f := f)
    (View.setOn_subset_set _ _)) $$ H
  iintro H
  iapply Hk
  iexists ((M.access r).write (Elt F) f w Finset.univ)
  isplitr; · ipureintro; exact View.read_write_univ _ _
  iexact H

/-! ## The staged blocks -/

/-- The staged block of `x`. -/
def xHas : sProp 𝕄 := (c : Thread nD τ).loc cc0_stg0_0 ↦{fullShare} (xs m c : Buf (Elt F) ((c : Thread nD τ).loc cc0_stg0_0))
/-- The staged block of `w`. -/
def wHas : sProp 𝕄 := (c : Thread nD τ).loc cc0_stg1_0 ↦{fullShare} (ws m c : Buf (Elt F) ((c : Thread nD τ).loc cc0_stg1_0))

/-- Loading the rows of device `k'` from the staged `x`. -/
theorem step_x {Q : α → sProp 𝕄} (k' : Dev nD) {off : Fin 2 → ℕ} (hoff : off = ![256 * k'.val, 0]) {inb : ∀ a, off a + S256x256.size a ≤ S1024x256.size a}
    {hl : (xM : Memref sig .tc .vmem S1024x256 .bf16).view.LoadsAt (Rect.unit (s := S1024x256) off S256x256.size inb).toLoadRect}
    {k : Vec F S256x256 .bf16 → Prog (TpuEff nD τ sig (Elt F) Λ₀ .tc) α} :
    xHas m c ⊢ iprop((xHas m c -∗ runs c (k (xrows (xs m c) k')) Q)
      -∗ runs c (.op (.load xM (Rect.unit (s := S1024x256) off S256x256.size inb).toLoadRect hl) k) Q) := by
  subst hoff
  unfold xHas
  iintro H Hk
  iapply (wp_load Variants.none (c : Thread nD τ) none Set.univ (m := xM) (Finset.subset_univ _)) $$ H
  iexact Hk

omit [FloatOps F] in
theorem zeros2 : (![0, 0] : Fin 2 → Nat) = fun _ => 0 := funext fun a => by fin_cases a <;> rfl

/-- Loading the staged `w` whole. -/
theorem step_w {Q : α → sProp 𝕄} {hl : (wM : Memref sig .tc .vmem S256x1024 .bf16).view.LoadsAt (Rect.unit (s := S256x1024) ![0, 0] S256x1024.size inb_S256x1024_S256x1024_0_0).toLoadRect}
    {k : Vec F S256x1024 .bf16 → Prog (TpuEff nD τ sig (Elt F) Λ₀ .tc) α} :
    wHas m c ⊢ iprop((wHas m c -∗ runs c (k (ws m c)) Q)
      -∗ runs c (.op (.load wM (Rect.unit (s := S256x1024) ![0, 0] S256x1024.size inb_S256x1024_S256x1024_0_0).toLoadRect hl) k) Q) := by
  unfold wHas
  iintro H Hk
  iapply (wp_load Variants.none (c : Thread nD τ) none Set.univ (m := wM) (Finset.subset_univ _)) $$ H
  rw [show (wM : Memref sig .tc .vmem S256x1024 .bf16).view.readAt (Elt F) (Rect.unit (s := S256x1024) ![0, 0] S256x1024.size inb_S256x1024_S256x1024_0_0).toLoadRect (ws m c) = ws m c
    from Memref.readAt_unit_zero (Elt F) cc0_stg1_0 zeros2 _ (ws m c)]
  iexact Hk

/-! ## The partial products -/

/-- The products' buffer, the rows of the devices in `S` computed. -/
def prods (S : Finset (Dev nD)) : sProp 𝕄 :=
  iprop(∃ f : Vec F S1024x1024 .f32, ⌜∀ k ∈ S, chunk f k = part m c k⌝
    ∗ ((c : Thread nD τ).loc cc0_scratch0 ↦{fullShare} (f : Buf (Elt F) ((c : Thread nD τ).loc cc0_scratch0))))

/-- Loading anything from the products, the value not used. -/
theorem step_p_any {Q : α → sProp 𝕄} {S : Finset (Dev nD)} (r : LoadRect S1024x1024) {hl : (pM : Memref sig .tc .vmem S1024x1024 .f32).view.LoadsAt r}
    {k : (r.shape.Idx → Elt F .f32) → Prog (TpuEff nD τ sig (Elt F) Λ₀ .tc) α} :
    prods m c S ⊢ iprop((∀ v, prods m c S -∗ runs c (k v) Q) -∗ runs c (.op (.load pM r hl) k) Q) := by
  unfold prods
  iintro ⟨%f, %hf, H⟩ Hk
  iapply (wp_load Variants.none (c : Thread nD τ) none Set.univ (m := pM) (Finset.subset_univ _)) $$ H
  iintro H
  iapply Hk
  iexists f
  isplitr; · ipureintro; exact hf
  iexact H

/-- Storing the rows of device `k'`. -/
theorem step_p_store {Q : α → sProp 𝕄} {S : Finset (Dev nD)} (k' : Dev nD) {off : Fin 2 → ℕ} (hoff : off = ![256 * k'.val, 0])
    {inb : ∀ a, off a + S256x1024.size a ≤ S1024x1024.size a} {w : Vec F S256x1024 .f32} (hw : w = part m c k')
    {hx : ((pM : Memref sig .tc .vmem S1024x1024 .f32).access (Rect.unit (s := S1024x1024) off S256x1024.size inb)).Stores Finset.univ}
    {hm : (Finset.univ : Finset (Rect.unit (s := S1024x1024) off S256x1024.size inb).shape.Idx) = Finset.univ ∨ ∀ a, (Rect.unit (s := S1024x1024) off S256x1024.size inb).stride a = 1}
    {k : PUnit → Prog (TpuEff nD τ sig (Elt F) Λ₀ .tc) α} :
    prods m c S ⊢ iprop((prods m c (insert k' S) -∗ runs c (k ⟨⟩) Q)
      -∗ runs c (.op (.store pM (Rect.unit (s := S1024x1024) off S256x1024.size inb) w Finset.univ hx hm) k) Q) := by
  subst hoff hw
  unfold prods
  iintro ⟨%f, %hf, H⟩ Hk
  iapply (wp_store Variants.none (c : Thread nD τ) none Set.univ (m := pM) (r := prowR k') (Mk := Finset.univ) (Finset.subset_univ _)) $$ H
  iintro H
  iapply Hk
  iexists pPut f k' (part m c k')
  isplitr
  · ipureintro
    intro k hk
    by_cases e : k = k'
    · subst e
      exact chunk_put f k _
    · exact (chunk_put_ne f e _).trans (hf k ((Finset.mem_insert.mp hk).resolve_left e))
  iexact H

omit [FloatOps F] in
/-- The left half of the rows of device `k'`, read from the whole buffer. -/
theorem read_lhalf (f : Vec F S1024x1024 .f32) (k' : Dev nD) (inb : ∀ a, (![256 * k'.val, 0] : Fin 2 → ℕ) a + S256x512.size a ≤ S1024x1024.size a) :
    (fun i => f ((Rect.unit (s := S1024x1024) ![256 * k'.val, 0] S256x512.size inb).emb i)) = lhalf (chunk f k') := by
  funext i
  show f _ = f _
  refine congrArg f (funext fun a => Fin.ext ?_)
  match a with
  | ⟨0, _⟩ =>
    show 256 * k'.val + 1 * (i 0).val = 256 * k'.val + 1 * (0 + 1 * (i 0).val)
    omega
  | ⟨1, _⟩ =>
    show 0 + 1 * (i 1).val = 0 + 1 * (0 + 1 * (i 1).val)
    omega

omit [FloatOps F] in
/-- The right half. -/
theorem read_rhalf (f : Vec F S1024x1024 .f32) (k' : Dev nD) (inb : ∀ a, (![256 * k'.val, 512] : Fin 2 → ℕ) a + S256x512.size a ≤ S1024x1024.size a) :
    (fun i => f ((Rect.unit (s := S1024x1024) ![256 * k'.val, 512] S256x512.size inb).emb i)) = rhalf (chunk f k') := by
  funext i
  show f _ = f _
  refine congrArg f (funext fun a => Fin.ext ?_)
  match a with
  | ⟨0, _⟩ =>
    show 256 * k'.val + 1 * (i 0).val = 256 * k'.val + 1 * (0 + 1 * (i 0).val)
    omega
  | ⟨1, _⟩ =>
    show 512 + 1 * (i 1).val = 0 + 1 * (512 + 1 * (i 1).val)
    omega

/-- Loading the left half of computed rows. -/
theorem step_p_l {Q : α → sProp 𝕄} {S : Finset (Dev nD)} (k' : Dev nD) (hk : k' ∈ S) {off : Fin 2 → ℕ} (hoff : off = ![256 * k'.val, 0])
    {inb : ∀ a, off a + S256x512.size a ≤ S1024x1024.size a}
    {hl : (pM : Memref sig .tc .vmem S1024x1024 .f32).view.LoadsAt (Rect.unit (s := S1024x1024) off S256x512.size inb).toLoadRect}
    {k : Vec F S256x512 .f32 → Prog (TpuEff nD τ sig (Elt F) Λ₀ .tc) α} :
    prods m c S ⊢ iprop((prods m c S -∗ runs c (k (lhalf (part m c k'))) Q)
      -∗ runs c (.op (.load pM (Rect.unit (s := S1024x1024) off S256x512.size inb).toLoadRect hl) k) Q) := by
  subst hoff
  unfold prods
  iintro ⟨%f, %hf, H⟩ Hk
  iapply (wp_load Variants.none (c : Thread nD τ) none Set.univ (m := pM) (Finset.subset_univ _)) $$ H
  iintro H
  rw [show (pM : Memref sig .tc .vmem S1024x1024 .f32).view.readAt (Elt F) (Rect.unit (s := S1024x1024) ![256 * k'.val, 0] S256x512.size inb).toLoadRect f
    = lhalf (part m c k') from (read_lhalf f k' inb).trans (congrArg lhalf (hf k' hk))]
  iapply Hk
  iexists f
  isplitr; · ipureintro; exact hf
  iexact H

/-- Loading the right half of computed rows. -/
theorem step_p_r {Q : α → sProp 𝕄} {S : Finset (Dev nD)} (k' : Dev nD) (hk : k' ∈ S) {off : Fin 2 → ℕ} (hoff : off = ![256 * k'.val, 512])
    {inb : ∀ a, off a + S256x512.size a ≤ S1024x1024.size a}
    {hl : (pM : Memref sig .tc .vmem S1024x1024 .f32).view.LoadsAt (Rect.unit (s := S1024x1024) off S256x512.size inb).toLoadRect}
    {k : Vec F S256x512 .f32 → Prog (TpuEff nD τ sig (Elt F) Λ₀ .tc) α} :
    prods m c S ⊢ iprop((prods m c S -∗ runs c (k (rhalf (part m c k'))) Q)
      -∗ runs c (.op (.load pM (Rect.unit (s := S1024x1024) off S256x512.size inb).toLoadRect hl) k) Q) := by
  subst hoff
  unfold prods
  iintro ⟨%f, %hf, H⟩ Hk
  iapply (wp_load Variants.none (c : Thread nD τ) none Set.univ (m := pM) (Finset.subset_univ _)) $$ H
  iintro H
  rw [show (pM : Memref sig .tc .vmem S1024x1024 .f32).view.readAt (Elt F) (Rect.unit (s := S1024x1024) ![256 * k'.val, 512] S256x512.size inb).toLoadRect f
    = rhalf (part m c k') from (read_rhalf f k' inb).trans (congrArg rhalf (hf k' hk))]
  iapply Hk
  iexists f
  isplitr; · ipureintro; exact hf
  iexact H

/-! ## The result -/

/-- The staged result holding `f`. -/
def oHas (f : Vec F S256x1024 .f32) : sProp 𝕄 :=
  (c : Thread nD τ).loc cc0_stg2_0 ↦{fullShare} (f : Buf (Elt F) ((c : Thread nD τ).loc cc0_stg2_0))
/-- The staged result with its left half written. -/
def oHalf : sProp 𝕄 := iprop(∃ f, ⌜lhalf f = outL m c⌝ ∗ oHas c f)

/-- Loading from the staged result, the value not used; -/
theorem step_o_any {Q : α → sProp 𝕄} {f : Vec F S256x1024 .f32} (r : LoadRect S256x1024) {hl : (oM : Memref sig .tc .vmem S256x1024 .f32).view.LoadsAt r}
    {k : (r.shape.Idx → Elt F .f32) → Prog (TpuEff nD τ sig (Elt F) Λ₀ .tc) α} :
    oHas c f ⊢ iprop((∀ v, oHas c f -∗ runs c (k v) Q) -∗ runs c (.op (.load oM r hl) k) Q) := by
  unfold oHas
  iintro H Hk
  iapply (wp_load Variants.none (c : Thread nD τ) none Set.univ (m := oM) (Finset.subset_univ _)) $$ H
  iintro H
  iapply Hk
  iexact H
/-- also once the left half is written. -/
theorem step_oHalf_any {Q : α → sProp 𝕄} (r : LoadRect S256x1024) {hl : (oM : Memref sig .tc .vmem S256x1024 .f32).view.LoadsAt r}
    {k : (r.shape.Idx → Elt F .f32) → Prog (TpuEff nD τ sig (Elt F) Λ₀ .tc) α} :
    oHalf m c ⊢ iprop((∀ v, oHalf m c -∗ runs c (k v) Q) -∗ runs c (.op (.load oM r hl) k) Q) := by
  unfold oHalf
  iintro ⟨%f, %hf, H⟩ Hk
  iapply (step_o_any c (f := f) r) $$ H
  iintro %v H
  iapply Hk
  iexists f
  isplitr; · ipureintro; exact hf
  iexact H

/-- Storing the left half; -/
theorem step_o_l {Q : α → sProp 𝕄} {f : Vec F S256x1024 .f32} {w : Vec F S256x512 .f32} (hw : w = outL m c)
    {hx : ((oM : Memref sig .tc .vmem S256x1024 .f32).access lhalfR).Stores Finset.univ}
    {hm : (Finset.univ : Finset lhalfR.shape.Idx) = Finset.univ ∨ ∀ a, lhalfR.stride a = 1}
    {k : PUnit → Prog (TpuEff nD τ sig (Elt F) Λ₀ .tc) α} :
    oHas c f ⊢ iprop((oHalf m c -∗ runs c (k ⟨⟩) Q) -∗ runs c (.op (.store oM lhalfR w Finset.univ hx hm) k) Q) := by
  subst hw
  unfold oHalf oHas
  iintro H Hk
  iapply (wp_store Variants.none (c : Thread nD τ) none Set.univ (m := oM) (r := lhalfR) (Mk := Finset.univ) (Finset.subset_univ _)) $$ H
  iintro H
  iapply Hk
  iexists oPutL f (outL m c)
  isplitr; · ipureintro; exact lhalf_putL f _
  iexact H

/-- A matrix whose halves are the result's is the result. -/
theorem eq_outAt (f : Vec F S256x1024 .f32) (hl : lhalf f = outL m c) (hr : rhalf f = outR m c) : f = outAt m c := by
  funext i
  unfold outAt
  have h0 : (i 0).val < 256 := (i 0).isLt
  have h1 : (i 1).val < 1024 := (i 1).isLt
  split
  · rename_i h
    rw [← hl]
    refine congrArg f (funext fun a => Fin.ext ?_)
    match a with
    | ⟨0, _⟩ => show (i 0).val = 0 + 1 * (i 0).val; omega
    | ⟨1, _⟩ => show (i 1).val = 0 + 1 * (i 1).val; omega
  · rename_i h
    rw [← hr]
    refine congrArg f (funext fun a => Fin.ext ?_)
    match a with
    | ⟨0, _⟩ => show (i 0).val = 0 + 1 * (i 0).val; omega
    | ⟨1, _⟩ => show (i 1).val = 512 + 1 * ((i 1).val - 512); omega

/-- storing the right half after it completes the result. -/
theorem step_o_r {Q : α → sProp 𝕄} {w : Vec F S256x512 .f32} (hw : w = outR m c)
    {hx : ((oM : Memref sig .tc .vmem S256x1024 .f32).access rhalfR).Stores Finset.univ}
    {hm : (Finset.univ : Finset rhalfR.shape.Idx) = Finset.univ ∨ ∀ a, rhalfR.stride a = 1}
    {k : PUnit → Prog (TpuEff nD τ sig (Elt F) Λ₀ .tc) α} :
    oHalf m c ⊢ iprop((oHas c (outAt m c) -∗ runs c (k ⟨⟩) Q) -∗ runs c (.op (.store oM rhalfR w Finset.univ hx hm) k) Q) := by
  subst hw
  unfold oHalf oHas
  iintro ⟨%f, %hf, H⟩ Hk
  iapply (wp_store Variants.none (c : Thread nD τ) none Set.univ (m := oM) (r := rhalfR) (Mk := Finset.univ) (Finset.subset_univ _)) $$ H
  iintro H
  rw [show ((oM : Memref sig .tc .vmem S256x1024 .f32).access rhalfR).write (Elt F) f (outR m c) Finset.univ = outAt m c from
    eq_outAt m c (oPutR f (outR m c)) ((lhalf_putR f _).trans hf) (rhalf_putR f _)]
  iapply Hk
  iexact H

end Cert.KernelIdeal.Ring
-- ==== Proof.KernelIdeal.Comm.lean ====
/-
# The steps between devices

A signal to a neighbour hands over the landing slots that neighbour fills; the wait for both neighbours brings the six
landing slots this device fills; sending slot `j` gives up the send slot and the neighbour's landing slot; each wait for a
transfer brings a slot and ends the life of its cell, whose counter is at zero then.
-/
module

public import proofs.«01_k».proof.Proof.KernelIdeal.Steps
public import Idealize.ShloMosaic.Lib.Writes

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ)

variable (K : Dev nD × CellIx → ℕ) {α : Type} (c : Dev nD)

/-- What device `c` hands over with its first signal: the landing slots `prv c` fills; -/
def giveDown : sProp 𝕄 := iprop(riAny c 0 ∗ riAny c 2 ∗ riAny c 4)
/-- with its second: the landing slots `nxt c` fills. -/
def giveUp : sProp 𝕄 := iprop(riAny c 1 ∗ riAny c 3 ∗ riAny c 5)

omit [FloatOps F] in
theorem grant_down : (grant (prv c) true : sProp 𝕄) = giveDown c := by
  unfold grant giveDown; rw [nxt_prv, if_pos rfl]
omit [FloatOps F] in
theorem grant_up : (grant (nxt c) false : sProp 𝕄) = giveUp c := by
  unfold grant giveUp; rw [prv_nxt, if_neg (by decide)]

/-- The first signal, to `prv c`. -/
theorem step_signal_down {Q : α → sProp 𝕄} (n : Dev nD) (hn : n = prv c) {k : PUnit → Prog (TpuEff nD τ sig (Elt F) Λ₀ .tc) α} :
    iprop(recs m K ∗ owing c (owed₀ c) ∗ dutyTok ERing (barCell (prv c)) 0 true ∗ giveDown c)
      ⊢ iprop((owing c (owed₁ c) -∗ runs c (k ⟨⟩) Q) -∗ runs c (.op (.semSignal (n : Thread nD τ) barS 1) k) Q) := by
  subst hn
  unfold owing
  iintro ⟨#HR, ⟨%W, HO⟩, Ht, Hg⟩ Hk
  ihave HI := (recs_inv m K (prv c, .inl ())) $$ HR
  ihave Hr := (recs_reached m K (prv c, .inl ())) $$ HR
  iapply (Rounds.wp_signal Variants.none ERing (rd m) (c : Thread nD τ) none (dst := (prv c : Thread nD τ)) (κ := K (prv c, .inl ()))
      (d := true) (r := 0) (by rw [duties_bar]; exact Finset.mem_univ _) rfl () (owed₁ c) rfl) $$ [HI HO Ht Hg Hr]
  · isplitl [HI]; · iexact HI
    isplitl [HO]; · iexact HO
    isplitl [Ht]; · iexact Ht
    isplitl [Hg]
    · iapply (Entails.of_eq (show giveDown c = (rd m).payload (barCell (prv c)) 0 true from (grant_down c).symm))
      iexact Hg
    iexact Hr
  iintro HO
  iapply Hk
  iexists W
  iexact HO

/-- The second signal, to `nxt c`. -/
theorem step_signal_up {Q : α → sProp 𝕄} (n : Dev nD) (hn : n = nxt c) {k : PUnit → Prog (TpuEff nD τ sig (Elt F) Λ₀ .tc) α} :
    iprop(recs m K ∗ owing c (owed₁ c) ∗ dutyTok ERing (barCell (nxt c)) 0 false ∗ giveUp c)
      ⊢ iprop((owing c (owed c allSlots) -∗ runs c (k ⟨⟩) Q) -∗ runs c (.op (.semSignal (n : Thread nD τ) barS 1) k) Q) := by
  subst hn
  unfold owing
  iintro ⟨#HR, ⟨%W, HO⟩, Ht, Hg⟩ Hk
  ihave HI := (recs_inv m K (nxt c, .inl ())) $$ HR
  ihave Hr := (recs_reached m K (nxt c, .inl ())) $$ HR
  iapply (Rounds.wp_signal Variants.none ERing (rd m) (c : Thread nD τ) none (dst := (nxt c : Thread nD τ)) (κ := K (nxt c, .inl ()))
      (d := false) (r := 0) (by rw [duties_bar]; exact Finset.mem_univ _) rfl () (owed c allSlots) rfl) $$ [HI HO Ht Hg Hr]
  · isplitl [HI]; · iexact HI
    isplitl [HO]; · iexact HO
    isplitl [Ht]; · iexact Ht
    isplitl [Hg]
    · iapply (Entails.of_eq (show giveUp c = (rd m).payload (barCell (nxt c)) 0 false from (grant_up c).symm))
      iexact Hg
    iexact Hr
  iintro HO
  iapply Hk
  iexists W
  iexact HO

/-- Any wait for all of a cell's only round: its payloads come, and the cell's counter is zero for good. -/
theorem step_wait {Q : α → sProp 𝕄} (ix : CellIx) {w : TpuEff nD τ sig (Elt F) Λ₀ .tc PUnit} {n n' : ℕ} {P : sProp 𝕄} {O : CellTallies nD τ sig Unit}
    (e : n' = n) (hw : ∀ R : PUnit → sProp 𝕄, wpE (defs₀ (F := F)) Variants.none (c : Thread nD τ) none Set.univ w R = waitSpec (c : Thread nD τ) Set.univ (csem ix) n' R)
    (hn : n = (rd m).expect (kcell (c, ix)) 0)
    (hP : bigSep ((rd m).duties (kcell (c, ix)) 0 \ ∅) (fun d => (rd m).payload (kcell (c, ix)) 0 d) = P)
    (hO : (levAts L lv : sProp 𝕄) ⊢ MayWait (c : Thread nD τ) (csem ix) () O)
    {k : PUnit → Prog (TpuEff nD τ sig (Elt F) Λ₀ .tc) α} :
    iprop(recs m K ∗ owing c O ∗ atPos ERing (kcell (c, ix)) 0 ∅ 0 ∗ cred (tallyAt (kcell (c, ix)) () n))
      ⊢ iprop(((owing c O ∗ semVal (kcell (c, ix)) 0 ∗ P) -∗ runs c (k ⟨⟩) Q) -∗ runs c (.op w k) Q) := by
  subst e
  unfold owing
  iintro ⟨#HR, ⟨%W, HO⟩, Hat, Hc⟩ Hk
  ihave HI := (recs_inv m K (c, ix)) $$ HR
  ihave HI' := (recs_inv m K (c, ix)) $$ HR
  ihave Hl := (recs_lev m K) $$ HR
  ihave Hm := hO $$ Hl
  iapply (Rounds.wp_wait_rest_token Variants.none ERing (rd m) (c : Thread nD τ) none (κ := K (c, ix)) hw (Set.mem_univ _) () (O := O) (W := W)
      (R := 0) (m := 0) (T := ∅) (by rw [Nat.zero_add]; exact hn)) $$ [HI HO Hat Hc Hm]
  · isplitl [HI]; · iexact HI
    isplitl [Hc]; · iexact Hc
    isplitl [HO]; · iexact HO
    isplitl [Hm]; · iexact Hm
    iexact Hat
  iintro ⟨HO, Hat, -, Hpay⟩
  ihave Hp := (Entails.of_eq hP) $$ Hpay
  imod (Rounds.cell_close ERing (rd m) (Set.mem_univ (K (c, ix))) (fun h => h) (R := 0 + 1) (duties_later m (kcell (c, ix)))) $$ [HI' Hat] with Hz
  · isplitl [HI']; · iexact HI'
    iexact Hat
  iapply Hk
  isplitl [HO]
  · iexists _
    iexact HO
  isplitl [Hz]; · iexact Hz
  iexact Hp

/-- The landing slots device `c` fills. -/
def granted : sProp 𝕄 :=
  iprop((riAny (dest 1 c) 1 ∗ riAny (dest 3 c) 3 ∗ riAny (dest 5 c) 5) ∗ (riAny (dest 0 c) 0 ∗ riAny (dest 2 c) 2 ∗ riAny (dest 4 c) 4))

omit [FloatOps F] in
theorem granted_eq : (iprop(grant c false ∗ grant c true) : sProp 𝕄) = granted c := by
  unfold grant granted; rw [if_neg (by decide), if_pos rfl]; rfl

/-- The wait for both neighbours' signals. -/
theorem step_bar {Q : α → sProp 𝕄} {k : PUnit → Prog (TpuEff nD τ sig (Elt F) Λ₀ .tc) α} :
    iprop(recs m K ∗ owing c (owed c allSlots) ∗ atPos ERing (barCell c) 0 ∅ 0 ∗ cred (tallyAt (barCell c) () 2))
      ⊢ iprop(((owing c (owed c allSlots) ∗ semVal (barCell c) 0 ∗ granted c) -∗ runs c (k ⟨⟩) Q) -∗ runs c (.op (.semWait barS 2) k) Q) :=
  step_wait m K c (.inl ()) (w := .semWait barS 2) rfl (wpE_semWait_eq Variants.none (c : Thread nD τ) none Set.univ) (expect_bar m c).symm ((rest_bar m c).trans (granted_eq c))
    (mayWait_sends c (.reg barS) allSlots 1 (le_refl _) (by revert c; decide))

omit [FloatOps F] in
/-- Every landing slot takes the same credit; -/
theorem credit_r (j : Fin 6) : (riQ j).view.dmaCredit = N := rfl
omit [FloatOps F] in
/-- so does every send slot. -/
theorem credit_s (j : Fin 6) : (soQ j).view.dmaCredit = N := rfl

/-- The wait for slot `j` to land, the slots `l` still to be sent. -/
theorem step_landed {Q : α → sProp 𝕄} (j : Fin 6) (l : List (Fin 6)) (hl : ∀ i ∈ l, lv (vCell c j) () < lv (vCell c i) ())
    {q : DmaSem sig} (hq : q = vSem j) {hsrc : (soQ j).view.WordExact} {hdst : (riQ j).view.WordExact}
    {k : PUnit → Prog (TpuEff nD τ sig (Elt F) Λ₀ .tc) α} :
    iprop(recs m K ∗ owing c (owed c l) ∗ atPos ERing (vCell c j) 0 ∅ 0 ∗ cred (tallyAt (vCell c j) () N))
      ⊢ iprop(((owing c (owed c l) ∗ semVal (vCell c j) 0 ∗ riHas c j (landed m j c)) -∗ runs c (k ⟨⟩) Q)
        -∗ runs c (.op (.waitDma2 q (soQ j) (riQ j) hsrc hdst) k) Q) := by
  subst hq
  exact step_wait m K c (.inr (.inr j)) (w := .waitDma2 (vSem j) (soQ j) (riQ j) hsrc hdst) (credit_r j) (wpE_waitDma2_eq Variants.none (c : Thread nD τ) none Set.univ) (expect_v m c j).symm (rest_v m c j)
    (mayWait_sends c (.dma (vSem j)) l (lv (vCell c j) ()) (le_refl _) hl)

/-- The wait for slot `j` to come back. -/
theorem step_back {Q : α → sProp 𝕄} (j : Fin 6)
    {q : DmaSem sig} (hq : q = sSem j) {hsrc : (riQ j).view.WordExact} {hdst : (soQ j).view.WordExact}
    {k : PUnit → Prog (TpuEff nD τ sig (Elt F) Λ₀ .tc) α} :
    iprop(recs m K ∗ owing c (owed c []) ∗ atPos ERing (sCell c j) 0 ∅ 0 ∗ cred (tallyAt (sCell c j) () N))
      ⊢ iprop(((owing c (owed c []) ∗ semVal (sCell c j) 0 ∗ soHas c j (sent m j c)) -∗ runs c (k ⟨⟩) Q)
        -∗ runs c (.op (.waitDma2 q (riQ j) (soQ j) hsrc hdst) k) Q) := by
  subst hq
  exact step_wait m K c (.inr (.inl j)) (w := .waitDma2 (sSem j) (riQ j) (soQ j) hsrc hdst) (credit_s j) (wpE_waitDma2_eq Variants.none (c : Thread nD τ) none Set.univ) (expect_s m c j).symm (rest_s m c j)
    (mayWait_sends c (.dma (sSem j)) [] (lv (sCell c j) ()) (le_refl _) (fun _ h => absurd h List.not_mem_nil))

omit [FloatOps F] in
/-- Writing a matrix over a slot is writing the slot. -/
theorem write_squeezed {sp : Space} {s s' : Shape} {e : EltTy} (v : View sig .tc sp s e) (h : s'.numel = s.numel) (fd : v.ty.Contents (Elt F))
    (w : s'.Idx → Elt F e) (u : s.Idx → Elt F e) (hu : ∀ x, w ((Shape.reshapeEquiv h).symm x) = u x) :
    (v.reshape s' h).write (Elt F) fd w Finset.univ = v.write (Elt F) fd u Finset.univ := by
  rw [View.write_reshape_univ, show (fun x => w ((Shape.reshapeEquiv h).symm x)) = u from funext hu]

omit [FloatOps F] in
/-- What a landing slot holds after a transfer: what the send slot held. -/
theorem slot_landed (j : Fin 6) (fs : Vec F S6x256x512 .bf16) (fd : Vec F S6x256x512 .bf16) :
    (riS j).view.read (Elt F) ((riQ j).view.write (Elt F) fd ((soQ j).view.read (Elt F) fs) Finset.univ) = (soS j).view.read (Elt F) fs := by
  rw [write_squeezed (riS j).view _ fd _ ((soS j).view.read (Elt F) fs) (fun x => by
    show (soS j).view.read (Elt F) fs (Shape.reshapeEquiv _ ((Shape.reshapeEquiv _).symm x)) = _
    rw [Equiv.apply_symm_apply])]
  exact View.read_write_univ (Val := Elt F) (v := (riS j).view) fd _

/-- A send slot, at the view a transfer names, with given contents of the whole buffer. -/
abbrev soPts (j : Fin 6) (fs : Vec F S6x256x512 .bf16) : sProp 𝕄 :=
  (soQ j).view.loc (c : Thread nD τ) ↦[(soQ j).view.set]{fullShare} fs
/-- A landing slot likewise. -/
abbrev riPts (j : Fin 6) (fd : Vec F S6x256x512 .bf16) : sProp 𝕄 :=
  (riQ j).view.loc (c : Thread nD τ) ↦[(riQ j).view.set]{fullShare} fd

omit [FloatOps F] in
/-- Owning a send slot is having some contents of the buffer that read as the slot's. -/
theorem soHas_eq (j : Fin 6) (X : Vec F S1x256x512 .bf16) :
    soHas c j X = (iprop(∃ fs : Vec F S6x256x512 .bf16, ⌜(soS j).view.read (Elt F) fs = X⌝ ∗ soPts c j fs) : sProp 𝕄) := by
  unfold soPts; rw [View.set_reshape]; rfl
omit [FloatOps F] in
/-- The same for a landing slot. -/
theorem riHas_eq (j : Fin 6) (X : Vec F S1x256x512 .bf16) :
    riHas c j X = (iprop(∃ fd : Vec F S6x256x512 .bf16, ⌜(riS j).view.read (Elt F) fd = X⌝ ∗ riPts c j fd) : sProp 𝕄) := by
  unfold riPts; rw [View.set_reshape]; rfl

/-- The transfer of slot `j` in terms of the buffers' contents. -/
theorem step_send_raw {Q : α → sProp 𝕄} (j : Fin 6) (l : List (Fin 6)) (n : Dev nD) (hn : n = dest j c) {q₁ q₂ : DmaSem sig} (hq₁ : q₁ = sSem j) (hq₂ : q₂ = vSem j)
    {hsc : (riQ j : Memref sig (Dev.tc n : Thread nD τ).2.kind .vmem S256x512 .bf16).view.ref.isScScratch = false}
    {hsrc : (soQ j).view.WordExact} {hdst : (riQ j).view.WordExact}
    {hsem : DmaTarget.Typed .vmem (.dma q₂) (.remote (Dev.tc n : Thread nD τ) (riQ j) (.dma q₁) hsc)}
    {k : PUnit → Prog (TpuEff nD τ sig (Elt F) Λ₀ .tc) α} (W : Waits sig Unit) (fs fd : Vec F S6x256x512 .bf16)
    (hfs : (soS j).view.read (Elt F) fs = sent m j c) :
    iprop(cellInv ERing (rd m) (K (c, .inr (.inl j))) (sCell c j) ∗ cellInv ERing (rd m) (K (dest j c, .inr (.inr j))) (vCell (dest j c) j)
        ∗ soPts c j fs ∗ riPts (dest j c) j fd ∗ owes (c : Thread nD τ) (owed c (j :: l)) W
        ∗ dutyTok ERing (sCell c j) 0 false ∗ reached ERing (sCell c j) 0
        ∗ dutyTok ERing (vCell (dest j c) j) 0 false ∗ reached ERing (vCell (dest j c) j) 0)
      ⊢ iprop(((cred (tallyAt (sCell c j) () N) ∗ owes (c : Thread nD τ) (owed c l) W) -∗ runs c (k ⟨⟩) Q)
        -∗ runs c (.op (.enqueueDma (soQ j) (.remote (Dev.tc n : Thread nD τ) (riQ j) (.dma q₁) hsc) (.dma q₂) hsrc hdst hsem) k) Q) := by
  subst hn hq₁ hq₂
  have hN : (riQ j).view.amount (.dma (vSem j)) = N := rfl
  have hk₁ : (rd m).amount (sCell c j) 0 false = N := rfl
  have hk₂ : (rd m).amount (vCell (dest j c) j) 0 false = N := rfl
  have hO : owed c (j :: l) = owed c l + tallyAt (vCell (dest j c) j) () N := rfl
  have hr : τ.routes (c : Thread nD τ) (dest j c : Thread nD τ) = true := by routes
  have h₁ : soPts c j fs ⊢ (rd m).payload (sCell c j) 0 false := by
    rw [payload_s, soHas_eq]
    iintro H
    iexists fs
    isplitr; · ipureintro; exact hfs
    iexact H
  have h₂ : riPts (dest j c) j ((riQ j).view.write (Elt F) fd ((soQ j).view.read (Elt F) fs) Finset.univ) ⊢ (rd m).payload (vCell (dest j c) j) 0 false := by
    rw [payload_v, landed, from_dest, riHas_eq]
    iintro H
    iexists _
    isplitr; · ipureintro; exact (slot_landed j fs fd).trans hfs
    iexact H
  have hd₁ : false ∈ (rd m).duties (sCell c j) 0 := by rw [duties_s]; exact Finset.mem_singleton_self _
  have hd₂ : false ∈ (rd m).duties (vCell (dest j c) j) 0 := by rw [duties_v]; exact Finset.mem_singleton_self _
  exact Rounds.wp_send_pointsTo Variants.none ERing (rd m) (c : Thread nD τ) none (c' := (dest j c : Thread nD τ)) (src := soQ j) (dst := riQ j) (hsc := hsc)
    (sS := .dma (sSem j)) (sem := .dma (vSem j)) (hsrc := hsrc) (hdst := hdst) (hsem := hsem) (k := k) (q := fullShare) (fs := fs) (Q := Q) (Es := Set.univ)
    (κ₁ := K (c, .inr (.inl j))) (κ₂ := K (dest j c, .inr (.inr j)))
    (r₁ := 0) (r₂ := 0) (d₁ := false) (d₂ := false) (fd := fd) hd₁ hd₂ () () N hN hk₁ hk₂ (owed c l) hO (W := W) h₁ h₂ (hr := hr)

/-- Sending slot `j`, the slots `l` still to be sent after it. -/
theorem step_send {Q : α → sProp 𝕄} (j : Fin 6) (l : List (Fin 6)) (n : Dev nD) (hn : n = dest j c) {q₁ q₂ : DmaSem sig} (hq₁ : q₁ = sSem j) (hq₂ : q₂ = vSem j)
    {hsc : (riQ j : Memref sig (Dev.tc n : Thread nD τ).2.kind .vmem S256x512 .bf16).view.ref.isScScratch = false}
    {hsrc : (soQ j).view.WordExact} {hdst : (riQ j).view.WordExact}
    {hsem : DmaTarget.Typed .vmem (.dma q₂) (.remote (Dev.tc n : Thread nD τ) (riQ j) (.dma q₁) hsc)}
    {k : PUnit → Prog (TpuEff nD τ sig (Elt F) Λ₀ .tc) α} :
    iprop(recs m K ∗ owing c (owed c (j :: l)) ∗ soHas c j (sent m j c) ∗ riAny (dest j c) j
        ∗ dutyTok ERing (sCell c j) 0 false ∗ dutyTok ERing (vCell (dest j c) j) 0 false)
      ⊢ iprop(((owing c (owed c l) ∗ cred (tallyAt (sCell c j) () N)) -∗ runs c (k ⟨⟩) Q)
        -∗ runs c (.op (.enqueueDma (soQ j) (.remote (Dev.tc n : Thread nD τ) (riQ j) (.dma q₁) hsc) (.dma q₂) hsrc hdst hsem) k) Q) := by
  unfold owing riAny
  rw [soHas_eq]
  simp only [riHas_eq]
  iintro ⟨#HR, ⟨%W, HO⟩, ⟨%fs, %hfs, Hs⟩, ⟨%X, %fd, -, Hd⟩, Ht1, Ht2⟩ Hk
  ihave HI1 := (recs_inv m K (c, .inr (.inl j))) $$ HR
  ihave HI2 := (recs_inv m K (dest j c, .inr (.inr j))) $$ HR
  ihave Hr1 := (recs_reached m K (c, .inr (.inl j))) $$ HR
  ihave Hr2 := (recs_reached m K (dest j c, .inr (.inr j))) $$ HR
  iapply (step_send_raw m K c j l n hn hq₁ hq₂ W fs fd hfs) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]
  · iexists W
    iexact HO
  iexact Hc

end Cert.KernelIdeal.Ring
-- ==== Proof.KernelIdeal.Parts.lean ====
/-
# The body, part by part

The kernel's body is printed in ten parts and a last wait. Each part has one lemma: what it needs of device `c`, what it
leaves, and its results. The whole body's statement at the end chains them.
-/
module

public import proofs.«01_k».proof.Proof.KernelIdeal.Comm
public import Idealize.ShloMosaic.Lib.Writes

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ)

variable (K : Dev nD × CellIx → ℕ) {α : Type} (c : Dev nD)

/-! ## Slots in the program's words -/

/-- Loading from a send slot, the value not used. -/
theorem step_so_any {Q : α → sProp 𝕄} (j : Fin 6) {off : Fin 3 → ℕ} (hoff : off = ![j.val, 0, 0]) {inb : ∀ a, off a + S1x256x512.size a ≤ S6x256x512.size a}
    {hl : (soM : Memref sig .tc .vmem S6x256x512 .bf16).view.LoadsAt (Rect.unit (s := S6x256x512) off S1x256x512.size inb).toLoadRect}
    {k : Vec F S1x256x512 .bf16 → Prog (TpuEff nD τ sig (Elt F) Λ₀ .tc) α} :
    soAny c j ⊢ iprop((∀ v, soAny c j -∗ runs c (k v) Q) -∗ runs c (.op (.load soM (Rect.unit (s := S6x256x512) off S1x256x512.size inb).toLoadRect hl) k) Q) := by
  subst hoff
  unfold soAny
  iintro ⟨%X, H⟩ Hk
  iapply (step_load c soM (slotR j) (fun _ => rfl) (X := X)) $$ H
  iintro H
  iapply Hk
  iexists X
  iexact H

/-- Storing into send slot `j` what is to be sent from it. -/
theorem step_so_store {Q : α → sProp 𝕄} (j : Fin 6) {off : Fin 3 → ℕ} (hoff : off = ![j.val, 0, 0]) {inb : ∀ a, off a + S1x256x512.size a ≤ S6x256x512.size a}
    {w : Vec F S1x256x512 .bf16} (hw : w = sent m j c)
    {hx : ((soM : Memref sig .tc .vmem S6x256x512 .bf16).access (Rect.unit (s := S6x256x512) off S1x256x512.size inb)).Stores Finset.univ}
    {hm : (Finset.univ : Finset (Rect.unit (s := S6x256x512) off S1x256x512.size inb).shape.Idx) = Finset.univ
      ∨ ∀ a, (Rect.unit (s := S6x256x512) off S1x256x512.size inb).stride a = 1}
    {k : PUnit → Prog (TpuEff nD τ sig (Elt F) Λ₀ .tc) α} :
    soAny c j ⊢ iprop((soHas c j (sent m j c) -∗ runs c (k ⟨⟩) Q)
      -∗ runs c (.op (.store soM (Rect.unit (s := S6x256x512) off S1x256x512.size inb) w Finset.univ hx hm) k) Q) := by
  subst hoff hw
  unfold soAny
  iintro ⟨%X, H⟩ Hk
  iapply (step_store c soM (slotR j) (fun _ => rfl) (X := X)) $$ H
  iexact Hk

/-- Loading landing slot `j`. -/
theorem step_ri {Q : α → sProp 𝕄} (j : Fin 6) {X : Vec F S1x256x512 .bf16} {off : Fin 3 → ℕ} (hoff : off = ![j.val, 0, 0])
    {inb : ∀ a, off a + S1x256x512.size a ≤ S6x256x512.size a}
    {hl : (riM : Memref sig .tc .vmem S6x256x512 .bf16).view.LoadsAt (Rect.unit (s := S6x256x512) off S1x256x512.size inb).toLoadRect}
    {k : Vec F S1x256x512 .bf16 → Prog (TpuEff nD τ sig (Elt F) Λ₀ .tc) α} :
    riHas c j X ⊢ iprop((riHas c j X -∗ runs c (k X) Q) -∗ runs c (.op (.load riM (Rect.unit (s := S6x256x512) off S1x256x512.size inb).toLoadRect hl) k) Q) := by
  subst hoff
  exact step_load c riM (slotR j) (fun _ => rfl) (X := X)

/-! ## What the parts pass around -/

/-- The tokens for sending slot `j`; -/
def tokPair (j : Fin 6) : sProp 𝕄 := iprop(dutyTok ERing (sCell c j) 0 false ∗ dutyTok ERing (vCell (dest j c) j) 0 false)
/-- what the wait for slot `j` to land needs; -/
def landKit (j : Fin 6) : sProp 𝕄 := iprop(atPos ERing (vCell c j) 0 ∅ 0 ∗ cred (tallyAt (vCell c j) () N))
/-- what it leaves; -/
def gotSlot (j : Fin 6) : sProp 𝕄 := iprop(semVal (vCell c j) 0 ∗ riHas c j (landed m j c))
/-- the credit for the wait for slot `j` to come back; -/
def backCred (j : Fin 6) : sProp 𝕄 := cred (tallyAt (sCell c j) () N)
/-- the position of its cell; -/
def backPos (j : Fin 6) : sProp 𝕄 := atPos ERing (sCell c j) 0 ∅ 0
/-- what that wait leaves. -/
def backSlot (j : Fin 6) : sProp 𝕄 := iprop(semVal (sCell c j) 0 ∗ soHas c j (sent m j c))

/-- The rows computed after the first product, -/
abbrev P1 : Finset (Dev nD) := insert (up c 2) ∅
/-- after the second, -/
abbrev P2 : Finset (Dev nD) := insert (up c 1) (P1 c)
/-- after the third, -/
abbrev P3 : Finset (Dev nD) := insert (up c 3) (P2 c)
/-- after the last. -/
abbrev P4 : Finset (Dev nD) := insert c (P3 c)

theorem off1_1 : k0_off1 c 1#32 = ![256 * (up c 1).val, 0] := k0_off1_eq c 0
theorem off1_2 : k0_off1 c 2#32 = ![256 * (up c 2).val, 0] := k0_off1_eq c 1
theorem off1_3 : k0_off1 c 3#32 = ![256 * (up c 3).val, 0] := k0_off1_eq c 2
theorem off2_1 : k0_off2 c 1#32 = ![256 * (up c 1).val, 0] := k0_off2_eq c 0
theorem off2_2 : k0_off2 c 2#32 = ![256 * (up c 2).val, 0] := k0_off2_eq c 1
theorem off2_3 : k0_off2 c 3#32 = ![256 * (up c 3).val, 0] := k0_off2_eq c 2
theorem off3_1 : k0_off3 c 1#32 = ![256 * (up c 1).val, 0] := k0_off3_eq c 0
theorem off3_2 : k0_off3 c 2#32 = ![256 * (up c 2).val, 0] := k0_off3_eq c 1
theorem off3_3 : k0_off3 c 3#32 = ![256 * (up c 3).val, 0] := k0_off3_eq c 2
theorem off4_1 : k0_off4 c 1#32 = ![256 * (up c 1).val, 512] := k0_off4_eq c 0
theorem off4_2 : k0_off4 c 2#32 = ![256 * (up c 2).val, 512] := k0_off4_eq c 1
theorem off4_3 : k0_off4 c 3#32 = ![256 * (up c 3).val, 512] := k0_off4_eq c 2

/-- `step_send` with the tokens paired. -/
theorem step_send' {Q : α → sProp 𝕄} (j : Fin 6) (l : List (Fin 6)) (n : Dev nD) (hn : n = dest j c) {q₁ q₂ : DmaSem sig} (hq₁ : q₁ = sSem j) (hq₂ : q₂ = vSem j)
    {hsc : (riQ j : Memref sig (Dev.tc n : Thread nD τ).2.kind .vmem S256x512 .bf16).view.ref.isScScratch = false}
    {hsrc : (soQ j).view.WordExact} {hdst : (riQ j).view.WordExact}
    {hsem : DmaTarget.Typed .vmem (.dma q₂) (.remote (Dev.tc n : Thread nD τ) (riQ j) (.dma q₁) hsc)}
    {k : PUnit → Prog (TpuEff nD τ sig (Elt F) Λ₀ .tc) α} :
    recs m K ⊢ iprop(owing c (owed c (j :: l)) -∗ soHas c j (sent m j c) -∗ riAny (dest j c) j -∗ tokPair c j
      -∗ (owing c (owed c l) -∗ backCred c j -∗ runs c (k ⟨⟩) Q)
      -∗ runs c (.op (.enqueueDma (soQ j) (.remote (Dev.tc n : Thread nD τ) (riQ j) (.dma q₁) hsc) (.dma q₂) hsrc hdst hsem) k) Q) := by
  unfold tokPair backCred
  iintro #HR HO Hs Hd ⟨Ht1, Ht2⟩ Hk
  iapply (step_send m K c j l n hn hq₁ hq₂) $$ [HO Hs Hd Ht1 Ht2]
  · isplitr; · iexact HR
    isplitl [HO]; · iexact HO
    isplitl [Hs]; · iexact Hs
    isplitl [Hd]; · iexact Hd
    isplitl [Ht1] <;> iassumption
  iintro ⟨HO, Hc⟩
  iapply Hk $$ HO Hc

/-- `step_landed` with its needs and what it leaves collected. -/
theorem step_landed' {Q : α → sProp 𝕄} (j : Fin 6) (l : List (Fin 6)) (hl : ∀ i ∈ l, lv (vCell c j) () < lv (vCell c i) ())
    {q : DmaSem sig} (hq : q = vSem j) {hsrc : (soQ j).view.WordExact} {hdst : (riQ j).view.WordExact}
    {k : PUnit → Prog (TpuEff nD τ sig (Elt F) Λ₀ .tc) α} :
    recs m K ⊢ iprop(owing c (owed c l) -∗ landKit c j -∗ (owing c (owed c l) -∗ semVal (vCell c j) 0 -∗ riHas c j (landed m j c) -∗ runs c (k ⟨⟩) Q)
      -∗ runs c (.op (.waitDma2 q (soQ j) (riQ j) hsrc hdst) k) Q) := by
  unfold landKit
  iintro #HR HO ⟨Hat, Hc⟩ Hk
  iapply (step_landed m K c j l hl hq) $$ [HO Hat Hc]
  · isplitr; · iexact HR
    isplitl [HO]; · iexact HO
    isplitl [Hat] <;> iassumption
  iintro ⟨HO, Hz, Hr⟩
  iapply Hk $$ HO Hz Hr

/-- `step_back` likewise. -/
theorem step_back' {Q : α → sProp 𝕄} (j : Fin 6)
    {q : DmaSem sig} (hq : q = sSem j) {hsrc : (riQ j).view.WordExact} {hdst : (soQ j).view.WordExact}
    {k : PUnit → Prog (TpuEff nD τ sig (Elt F) Λ₀ .tc) α} :
    recs m K ⊢ iprop(owing c (owed c []) -∗ backPos c j -∗ backCred c j -∗ (owing c (owed c []) -∗ backSlot m c j -∗ runs c (k ⟨⟩) Q)
      -∗ runs c (.op (.waitDma2 q (riQ j) (soQ j) hsrc hdst) k) Q) := by
  unfold backPos backCred backSlot
  iintro #HR HO Hat Hc Hk
  iapply (step_back m K c j hq) $$ [HO Hat Hc]
  · isplitr; · iexact HR
    isplitl [HO]; · iexact HO
    isplitl [Hat] <;> iassumption
  iintro ⟨HO, H⟩
  iapply Hk $$ HO H

/-! ## The parts -/

/-- A program that returns is done. -/
theorem runs_ret {Q : α → sProp 𝕄} (a : α) : Q a ⊢ runs c (.ret a) Q := by
  unfold runs
  rw [wp_ret]
  iintro H
  imodintro
  iexact H

/-- The handshake with both neighbours, and the loads for the first product. -/
theorem runs_part1 {Q : _ → sProp 𝕄} :
    recs m K ⊢ iprop(owing c (owed₀ c) -∗ dutyTok ERing (barCell (prv c)) 0 true -∗ dutyTok ERing (barCell (nxt c)) 0 false -∗ giveDown c -∗ giveUp c -∗ atPos ERing (barCell c) 0 ∅ 0 -∗ cred (tallyAt (barCell c) () 2) -∗ xHas m c -∗ wHas m c
      -∗ (∀ v4 v7 v13 v16 v19 v22, owing c (owed c allSlots) -∗ semVal (barCell c) 0 -∗ granted c -∗ xHas m c -∗ wHas m c -∗ Q ⟨c, v4, v7, v13, v16, v19, v22, k0_pay1 (xrows (xs m c) (up c 2)), k0_pay2 (ws m c)⟩)
      -∗ runs c (k0_part1 xM (Memref.isWhole_whole _) wM (Memref.isWhole_whole _) oM (Memref.isWhole_whole _) pM (Memref.isWhole_whole _)
        soM (Memref.isWhole_whole _) riM (Memref.isWhole_whole _) cc0_scratch3 cc0_scratch4 ) Q) := by
  simp only [k0_part1_eq_skeleton]; unfold k0_part1_skel
  simp only [semSignalWord, semWaitWord, Prog.lift, Prog.bind_op, Prog.bind_ret, Prog.pure_eq_ret, wp_deviceId]
  iintro #HR HO Ht1 Ht2 Hg1 Hg2 Hat Hc Hx Hw Hk
  iapply (step_signal_down m K c _ (Fin.ext (k0_dev1_eq c))) $$ [HO Ht1 Hg1]
  · isplitr; · iexact HR
    isplitl [HO]; · iexact HO
    isplitl [Ht1] <;> iassumption
  iintro HO
  iapply (step_signal_up m K c _ (Fin.ext (k0_dev2_eq c))) $$ [HO Ht2 Hg2]
  · isplitr; · iexact HR
    isplitl [HO]; · iexact HO
    isplitl [Ht2] <;> iassumption
  iintro HO
  iapply (step_bar m K c) $$ [HO Hat Hc]
  · isplitr; · iexact HR
    isplitl [HO]; · iexact HO
    isplitl [Hat] <;> iassumption
  iintro ⟨HO, Hz, Hg⟩
  iapply (step_x m c (up c 2) (off1_2 c)) $$ Hx; iintro Hx
  iapply (step_w m c) $$ Hw; iintro Hw
  iapply (runs_ret c _)
  iapply Hk $$ %_ %_ %_ %_ %_ %_ HO Hz Hg Hx Hw
/-- The first product; slots 0 and 1 filled with its halves; slot 0 sent. -/
theorem runs_part2 {Q : _ → sProp 𝕄} {v4 v7 v19 : BitVec 32} :
    recs m K ⊢ iprop(owing c (owed c allSlots) -∗ prods m c ∅ -∗ soAny c 0 -∗ soAny c 1 -∗ riAny (dest 0 c) 0 -∗ tokPair c 0
      -∗ (owing c (owed c [1, 2, 3, 4, 5]) -∗ backCred c 0 -∗ prods m c (P1 c) -∗ soHas c 1 (sent m 1 c) -∗ Q ⟨⟩)
      -∗ runs c (k0_part2 xM (Memref.isWhole_whole _) wM (Memref.isWhole_whole _) oM (Memref.isWhole_whole _) pM (Memref.isWhole_whole _)
        soM (Memref.isWhole_whole _) riM (Memref.isWhole_whole _) cc0_scratch3 cc0_scratch4 c v4 v7 v19 (k0_pay1 (xrows (xs m c) (up c 2))) (k0_pay2 (ws m c))) Q) := by
  simp only [k0_part2_eq_skeleton]; unfold k0_part2_skel
  simp only [semSignalWord, semWaitWord, Prog.lift, Prog.bind_op, Prog.bind_ret, Prog.pure_eq_ret, wp_deviceId]
  iintro #HR HO Hp Hs0 Hs1 Hd0 Ht0 Hk
  iapply (step_p_any m c _) $$ Hp; iintro %_ Hp
  iapply (step_p_store m c (up c 2) (off2_2 c) rfl) $$ Hp; iintro Hp
  iapply (step_p_l m c (up c 2) (by simp) (off3_2 c)) $$ Hp; iintro Hp
  iapply (step_so_any c 0 rfl) $$ Hs0; iintro %_ Hs0
  iapply (step_so_store m c 0 rfl rfl) $$ Hs0; iintro Hs0
  iapply (step_p_r m c (up c 2) (by simp) (off4_2 c)) $$ Hp; iintro Hp
  iapply (step_so_any c 1 rfl) $$ Hs1; iintro %_ Hs1
  iapply (step_so_store m c 1 rfl rfl) $$ Hs1; iintro Hs1
  iapply (step_send' m K c 0 [1, 2, 3, 4, 5] _ (Fin.ext (k0_dev3_eq c)) rfl rfl) $$ HR HO Hs0 Hd0 Ht0; iintro HO Hb0
  iapply (runs_ret c _)
  iapply Hk $$ HO Hb0 Hp Hs1
/-- Slot 1 sent; the second product; slot 2 filled and sent. -/
theorem runs_part3 {Q : _ → sProp 𝕄} {v4 v16 : BitVec 32} :
    recs m K ⊢ iprop(owing c (owed c [1, 2, 3, 4, 5]) -∗ soHas c 1 (sent m 1 c) -∗ riAny (dest 1 c) 1 -∗ tokPair c 1 -∗ xHas m c -∗ wHas m c -∗ prods m c (P1 c) -∗ soAny c 2 -∗ riAny (dest 2 c) 2 -∗ tokPair c 2
      -∗ (owing c (owed c [3, 4, 5]) -∗ backCred c 1 -∗ backCred c 2 -∗ xHas m c -∗ wHas m c -∗ prods m c (P2 c) -∗ Q ⟨⟩)
      -∗ runs c (k0_part3 xM (Memref.isWhole_whole _) wM (Memref.isWhole_whole _) oM (Memref.isWhole_whole _) pM (Memref.isWhole_whole _)
        soM (Memref.isWhole_whole _) riM (Memref.isWhole_whole _) cc0_scratch3 cc0_scratch4 c v4 v16) Q) := by
  simp only [k0_part3_eq_skeleton]; unfold k0_part3_skel
  simp only [semSignalWord, semWaitWord, Prog.lift, Prog.bind_op, Prog.bind_ret, Prog.pure_eq_ret, wp_deviceId]
  iintro #HR HO Hs1 Hd1 Ht1 Hx Hw Hp Hs2 Hd2 Ht2 Hk
  iapply (step_send' m K c 1 [2, 3, 4, 5] _ (Fin.ext (k0_dev4_eq c)) rfl rfl) $$ HR HO Hs1 Hd1 Ht1; iintro HO Hb1
  iapply (step_x m c (up c 1) (off1_1 c)) $$ Hx; iintro Hx
  iapply (step_w m c) $$ Hw; iintro Hw
  iapply (step_p_any m c _) $$ Hp; iintro %_ Hp
  iapply (step_p_store m c (up c 1) (off2_1 c) rfl) $$ Hp; iintro Hp
  iapply (step_p_r m c (up c 1) (by simp) (off4_1 c)) $$ Hp; iintro Hp
  iapply (step_so_any c 2 rfl) $$ Hs2; iintro %_ Hs2
  iapply (step_so_store m c 2 rfl rfl) $$ Hs2; iintro Hs2
  iapply (step_send' m K c 2 [3, 4, 5] _ (Fin.ext (k0_dev5_eq c)) rfl rfl) $$ HR HO Hs2 Hd2 Ht2; iintro HO Hb2
  iapply (runs_ret c _)
  iapply Hk $$ HO Hb1 Hb2 Hx Hw Hp
/-- The third product; slot 3 filled and sent; the fourth product computed. -/
theorem runs_part4 {Q : _ → sProp 𝕄} {v7 v13 v22 : BitVec 32} :
    recs m K ⊢ iprop(owing c (owed c [3, 4, 5]) -∗ xHas m c -∗ wHas m c -∗ prods m c (P2 c) -∗ soAny c 3 -∗ riAny (dest 3 c) 3 -∗ tokPair c 3
      -∗ (owing c (owed c [4, 5]) -∗ backCred c 3 -∗ xHas m c -∗ wHas m c -∗ prods m c (P3 c) -∗ Q (k0_pay10 (xrows (xs m c) c) (ws m c)))
      -∗ runs c (k0_part4 xM (Memref.isWhole_whole _) wM (Memref.isWhole_whole _) oM (Memref.isWhole_whole _) pM (Memref.isWhole_whole _)
        soM (Memref.isWhole_whole _) riM (Memref.isWhole_whole _) cc0_scratch3 cc0_scratch4 c v7 v13 v22) Q) := by
  simp only [k0_part4_eq_skeleton]; unfold k0_part4_skel
  simp only [semSignalWord, semWaitWord, Prog.lift, Prog.bind_op, Prog.bind_ret, Prog.pure_eq_ret, wp_deviceId]
  iintro #HR HO Hx Hw Hp Hs3 Hd3 Ht3 Hk
  iapply (step_x m c (up c 3) (off1_3 c)) $$ Hx; iintro Hx
  iapply (step_w m c) $$ Hw; iintro Hw
  iapply (step_p_any m c _) $$ Hp; iintro %_ Hp
  iapply (step_p_store m c (up c 3) (off2_3 c) rfl) $$ Hp; iintro Hp
  iapply (step_p_l m c (up c 3) (by simp) (off3_3 c)) $$ Hp; iintro Hp
  iapply (step_so_any c 3 rfl) $$ Hs3; iintro %_ Hs3
  iapply (step_so_store m c 3 rfl rfl) $$ Hs3; iintro Hs3
  iapply (step_send' m K c 3 [4, 5] _ (Fin.ext (k0_dev6_eq c)) rfl rfl) $$ HR HO Hs3 Hd3 Ht3; iintro HO Hb3
  iapply (step_x m c (c) (k0_off5_eq c)) $$ Hx; iintro Hx
  iapply (step_w m c) $$ Hw; iintro Hw
  iapply (runs_ret c _)
  iapply Hk $$ HO Hb3 Hx Hw Hp
/-- The fourth product stored; slot 0 has landed; slot 4 filled. -/
theorem runs_part5 {Q : _ → sProp 𝕄} {v4 v16 : BitVec 32} :
    recs m K ⊢ iprop(owing c (owed c [4, 5]) -∗ prods m c (P3 c) -∗ landKit c 0 -∗ soAny c 4
      -∗ (owing c (owed c [4, 5]) -∗ prods m c (P4 c) -∗ semVal (vCell c 0) 0 -∗ riHas c 0 (landed m 0 c) -∗ soHas c 4 (sent m 4 c) -∗ Q ⟨⟩)
      -∗ runs c (k0_part5 xM (Memref.isWhole_whole _) wM (Memref.isWhole_whole _) oM (Memref.isWhole_whole _) pM (Memref.isWhole_whole _)
        soM (Memref.isWhole_whole _) riM (Memref.isWhole_whole _) cc0_scratch3 cc0_scratch4 c v4 v16 (k0_pay10 (xrows (xs m c) c) (ws m c))) Q) := by
  simp only [k0_part5_eq_skeleton]; unfold k0_part5_skel
  simp only [semSignalWord, semWaitWord, Prog.lift, Prog.bind_op, Prog.bind_ret, Prog.pure_eq_ret, wp_deviceId]
  iintro #HR HO Hp Hl0 Hs4 Hk
  iapply (step_p_any m c _) $$ Hp; iintro %_ Hp
  iapply (step_p_store m c (c) (k0_off6_eq c) rfl) $$ Hp; iintro Hp
  iapply (step_landed' m K c 0 [4, 5] (by clear * - c; revert c; decide) rfl) $$ HR HO Hl0; iintro HO Hz0 Hr0
  iapply (step_p_l m c (up c 1) (by simp) (off3_1 c)) $$ Hp; iintro Hp
  iapply (step_ri c 0 rfl) $$ Hr0; iintro Hr0
  iapply (step_so_any c 4 rfl) $$ Hs4; iintro %_ Hs4
  iapply (step_so_store m c 4 rfl rfl) $$ Hs4; iintro Hs4
  iapply (runs_ret c _)
  iapply Hk $$ HO Hp Hz0 Hr0 Hs4
/-- Slot 4 sent; slot 1 has landed; slot 5 filled and sent. -/
theorem runs_part6 {Q : _ → sProp 𝕄} {v7 v22 : BitVec 32} :
    recs m K ⊢ iprop(owing c (owed c [4, 5]) -∗ soHas c 4 (sent m 4 c) -∗ riAny (dest 4 c) 4 -∗ tokPair c 4 -∗ prods m c (P4 c) -∗ landKit c 1 -∗ soAny c 5 -∗ riAny (dest 5 c) 5 -∗ tokPair c 5
      -∗ (owing c (owed c []) -∗ backCred c 4 -∗ backCred c 5 -∗ prods m c (P4 c) -∗ semVal (vCell c 1) 0 -∗ riHas c 1 (landed m 1 c) -∗ Q ⟨⟩)
      -∗ runs c (k0_part6 xM (Memref.isWhole_whole _) wM (Memref.isWhole_whole _) oM (Memref.isWhole_whole _) pM (Memref.isWhole_whole _)
        soM (Memref.isWhole_whole _) riM (Memref.isWhole_whole _) cc0_scratch3 cc0_scratch4 c v7 v22) Q) := by
  simp only [k0_part6_eq_skeleton]; unfold k0_part6_skel
  simp only [semSignalWord, semWaitWord, Prog.lift, Prog.bind_op, Prog.bind_ret, Prog.pure_eq_ret, wp_deviceId]
  iintro #HR HO Hs4 Hd4 Ht4 Hp Hl1 Hs5 Hd5 Ht5 Hk
  iapply (step_send' m K c 4 [5] _ (Fin.ext (k0_dev7_eq c)) rfl rfl) $$ HR HO Hs4 Hd4 Ht4; iintro HO Hb4
  iapply (step_landed' m K c 1 [5] (by clear * - c; revert c; decide) rfl) $$ HR HO Hl1; iintro HO Hz1 Hr1
  iapply (step_p_r m c (up c 3) (by simp) (off4_3 c)) $$ Hp; iintro Hp
  iapply (step_ri c 1 rfl) $$ Hr1; iintro Hr1
  iapply (step_so_any c 5 rfl) $$ Hs5; iintro %_ Hs5
  iapply (step_so_store m c 5 rfl rfl) $$ Hs5; iintro Hs5
  iapply (step_send' m K c 5 [] _ (Fin.ext (k0_dev8_eq c)) rfl rfl) $$ HR HO Hs5 Hd5 Ht5; iintro HO Hb5
  iapply (runs_ret c _)
  iapply Hk $$ HO Hb4 Hb5 Hp Hz1 Hr1
/-- Slots 3 and 4 have landed; the left half of the result is computed. -/
theorem runs_part7 {Q : _ → sProp 𝕄} {v4 v7 v13 : BitVec 32} :
    recs m K ⊢ iprop(owing c (owed c []) -∗ prods m c (P4 c) -∗ landKit c 3 -∗ landKit c 4
      -∗ (owing c (owed c []) -∗ prods m c (P4 c) -∗ gotSlot m c 3 -∗ gotSlot m c 4 -∗ Q ⟨k0_pay14 (lhalf (part m c c)) (landed m 3 c) (landed m 4 c), k0_pay15 (lhalf (part m c c)) (landed m 3 c) (landed m 4 c), k0_pay16⟩)
      -∗ runs c (k0_part7 xM (Memref.isWhole_whole _) wM (Memref.isWhole_whole _) oM (Memref.isWhole_whole _) pM (Memref.isWhole_whole _)
        soM (Memref.isWhole_whole _) riM (Memref.isWhole_whole _) cc0_scratch3 cc0_scratch4 c v4 v7 v13) Q) := by
  simp only [k0_part7_eq_skeleton]; unfold k0_part7_skel
  simp only [semSignalWord, semWaitWord, Prog.lift, Prog.bind_op, Prog.bind_ret, Prog.pure_eq_ret, wp_deviceId]
  unfold gotSlot
  iintro #HR HO Hp Hl3 Hl4 Hk
  iapply (step_landed' m K c 3 [] (by clear * - c; revert c; decide) rfl) $$ HR HO Hl3; iintro HO Hz3 Hr3
  iapply (step_landed' m K c 4 [] (by clear * - c; revert c; decide) rfl) $$ HR HO Hl4; iintro HO Hz4 Hr4
  iapply (step_p_l m c (c) (by simp) (k0_off7_eq c)) $$ Hp; iintro Hp
  iapply (step_ri c 3 rfl) $$ Hr3; iintro Hr3
  iapply (step_ri c 4 rfl) $$ Hr4; iintro Hr4
  iapply (runs_ret c _)
  iapply Hk $$ HO Hp [Hz3 Hr3] [Hz4 Hr4]
  · isplitl [Hz3] <;> iassumption
  · isplitl [Hz4] <;> iassumption
/-- The left half of the result stored; slots 2 and 5 have landed. -/
theorem runs_part8 {Q : _ → sProp 𝕄} {v4 v7 v13 : BitVec 32} {f : Vec F S256x1024 .f32} :
    recs m K ⊢ iprop(owing c (owed c []) -∗ prods m c (P4 c) -∗ oHas c f -∗ landKit c 2 -∗ landKit c 5
      -∗ (owing c (owed c []) -∗ prods m c (P4 c) -∗ oHalf m c -∗ semVal (vCell c 2) 0 -∗ riHas c 2 (landed m 2 c) -∗ semVal (vCell c 5) 0 -∗ riHas c 5 (landed m 5 c) -∗ Q (rhalf (part m c c)))
      -∗ runs c (k0_part8 xM (Memref.isWhole_whole _) wM (Memref.isWhole_whole _) oM (Memref.isWhole_whole _) pM (Memref.isWhole_whole _)
        soM (Memref.isWhole_whole _) riM (Memref.isWhole_whole _) cc0_scratch3 cc0_scratch4 c v4 v7 v13
        (k0_pay14 (lhalf (part m c c)) (landed m 3 c) (landed m 4 c)) (k0_pay15 (lhalf (part m c c)) (landed m 3 c) (landed m 4 c)) k0_pay16) Q) := by
  simp only [k0_part8_eq_skeleton]; unfold k0_part8_skel
  simp only [semSignalWord, semWaitWord, Prog.lift, Prog.bind_op, Prog.bind_ret, Prog.pure_eq_ret, wp_deviceId]
  iintro #HR HO Hp Ho Hl2 Hl5 Hk
  iapply (step_o_any c _) $$ Ho; iintro %_ Ho
  iapply (step_o_l m c rfl) $$ Ho; iintro Ho
  iapply (step_landed' m K c 2 [] (by clear * - c; revert c; decide) rfl) $$ HR HO Hl2; iintro HO Hz2 Hr2
  iapply (step_landed' m K c 5 [] (by clear * - c; revert c; decide) rfl) $$ HR HO Hl5; iintro HO Hz5 Hr5
  iapply (step_p_r m c (c) (by simp) (k0_off8_eq c)) $$ Hp; iintro Hp
  iapply (runs_ret c _)
  iapply Hk $$ HO Hp Ho Hz2 Hr2 Hz5 Hr5
/-- The right half of the result computed and stored; slot 0 is back. -/
theorem runs_part9 {Q : _ → sProp 𝕄} :
    recs m K ⊢ iprop(owing c (owed c []) -∗ riHas c 2 (landed m 2 c) -∗ riHas c 5 (landed m 5 c) -∗ oHalf m c -∗ backPos c 0 -∗ backCred c 0
      -∗ (owing c (owed c []) -∗ riHas c 2 (landed m 2 c) -∗ riHas c 5 (landed m 5 c) -∗ oHas c (outAt m c) -∗ backSlot m c 0 -∗ Q ⟨⟩)
      -∗ runs c (k0_part9 xM (Memref.isWhole_whole _) wM (Memref.isWhole_whole _) oM (Memref.isWhole_whole _) pM (Memref.isWhole_whole _)
        soM (Memref.isWhole_whole _) riM (Memref.isWhole_whole _) cc0_scratch3 cc0_scratch4 (rhalf (part m c c))) Q) := by
  simp only [k0_part9_eq_skeleton]; unfold k0_part9_skel
  simp only [semSignalWord, semWaitWord, Prog.lift, Prog.bind_op, Prog.bind_ret, Prog.pure_eq_ret, wp_deviceId]
  iintro #HR HO Hr2 Hr5 Ho Ha0 Hb0 Hk
  iapply (step_ri c 2 rfl) $$ Hr2; iintro Hr2
  iapply (step_ri c 5 rfl) $$ Hr5; iintro Hr5
  iapply (step_oHalf_any m c _) $$ Ho; iintro %_ Ho
  iapply (step_o_r m c rfl) $$ Ho; iintro Ho
  iapply (step_back' m K c 0 rfl) $$ HR HO Ha0 Hb0; iintro HO Hs0
  iapply (runs_ret c _)
  iapply Hk $$ HO Hr2 Hr5 Ho Hs0
/-- Slots 1 to 4 are back. -/
theorem runs_part10 {Q : _ → sProp 𝕄} :
    recs m K ⊢ iprop(owing c (owed c []) -∗ backPos c 1 -∗ backCred c 1 -∗ backPos c 2 -∗ backCred c 2 -∗ backPos c 3 -∗ backCred c 3 -∗ backPos c 4 -∗ backCred c 4
      -∗ (owing c (owed c []) -∗ backSlot m c 1 -∗ backSlot m c 2 -∗ backSlot m c 3 -∗ backSlot m c 4 -∗ Q ⟨⟩)
      -∗ runs c (k0_part10 xM (Memref.isWhole_whole _) wM (Memref.isWhole_whole _) oM (Memref.isWhole_whole _) pM (Memref.isWhole_whole _)
        soM (Memref.isWhole_whole _) riM (Memref.isWhole_whole _) cc0_scratch3 cc0_scratch4 ) Q) := by
  simp only [k0_part10_eq_skeleton]; unfold k0_part10_skel
  simp only [semSignalWord, semWaitWord, Prog.lift, Prog.bind_op, Prog.bind_ret, Prog.pure_eq_ret, wp_deviceId]
  iintro #HR HO Ha1 Hb1 Ha2 Hb2 Ha3 Hb3 Ha4 Hb4 Hk
  iapply (step_back' m K c 1 rfl) $$ HR HO Ha1 Hb1; iintro HO Hs1
  iapply (step_back' m K c 2 rfl) $$ HR HO Ha2 Hb2; iintro HO Hs2
  iapply (step_back' m K c 3 rfl) $$ HR HO Ha3 Hb3; iintro HO Hs3
  iapply (step_back' m K c 4 rfl) $$ HR HO Ha4 Hb4; iintro HO Hs4
  iapply (runs_ret c _)
  iapply Hk $$ HO Hs1 Hs2 Hs3 Hs4
end Cert.KernelIdeal.Ring
-- ==== Proof.KernelIdeal.Body.lean ====
/-
# The whole body

The ten parts and the last wait in a row: what device `c` needs to run the kernel once, and what it has afterwards. The
six slots are dealt with as families, one member per slot.
-/
module

public import proofs.«01_k».proof.Proof.KernelIdeal.Parts
public import Idealize.ShloMosaic.Lib.Writes

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ)

variable (K : Dev nD × CellIx → ℕ) (c : Dev nD)

/-! ## Families over the six slots -/

omit [FloatOps F] in
/-- A family over the slots, one by one. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The kernel on device `c`, from the first signal to the last wait. -/
theorem runs_body {Q : PUnit → sProp 𝕄} {f : Vec F S256x1024 .f32} :
    recs m K ⊢ iprop(owing c (owed₀ c) -∗ dutyTok ERing (barCell (prv c)) 0 true -∗ dutyTok ERing (barCell (nxt c)) 0 false
      -∗ atPos ERing (barCell c) 0 ∅ 0 -∗ cred (tallyAt (barCell c) () 2)
      -∗ bigSep Finset.univ (tokPair c) -∗ bigSep Finset.univ (backPos c) -∗ bigSep Finset.univ (landKit c)
      -∗ prods m c ∅ -∗ bigSep Finset.univ (soAny c) -∗ bigSep Finset.univ (riAny c) -∗ xHas m c -∗ wHas m c -∗ oHas c f
      -∗ (owing c (owed c []) -∗ semVal (barCell c) 0 -∗ bigSep Finset.univ (backSlot m c) -∗ bigSep Finset.univ (gotSlot m c)
        -∗ prods m c (P4 c) -∗ xHas m c -∗ wHas m c -∗ oHas c (outAt m c) -∗ Q ⟨⟩)
      -∗ runs c (cc0_body xM (Memref.isWhole_whole _) wM (Memref.isWhole_whole _) oM (Memref.isWhole_whole _) pM (Memref.isWhole_whole _)
        soM (Memref.isWhole_whole _) riM (Memref.isWhole_whole _) cc0_scratch3 cc0_scratch4) Q) := by
  rw [cc0_body_eq_skeleton]; unfold cc0_body_skel
  simp only [six, wp_bind]
  iintro #HR HO Htp Htn Hat Hc ⟨Ht0, Ht1, Ht2, Ht3, Ht4, Ht5⟩ ⟨Ha0, Ha1, Ha2, Ha3, Ha4, Ha5⟩ ⟨Hl0, Hl1, Hl2, Hl3, Hl4, Hl5⟩ Hp ⟨Hs0, Hs1, Hs2, Hs3, Hs4, Hs5⟩ ⟨Hr0, Hr1, Hr2, Hr3, Hr4, Hr5⟩ Hx Hw Ho Hk
  iapply (runs_part1 m K c) $$ HR HO Htp Htn [Hr0 Hr2 Hr4] [Hr1 Hr3 Hr5] Hat Hc Hx Hw
  · unfold giveDown
    isplitl [Hr0]; · iexact Hr0
    isplitl [Hr2] <;> iassumption
  · unfold giveUp
    isplitl [Hr1]; · iexact Hr1
    isplitl [Hr3] <;> iassumption
  iintro %v4 %v7 %v13 %v16 %v19 %v22 HO Hzb Hg Hx Hw
  unfold granted
  icases Hg with ⟨⟨Hd1, Hd3, Hd5⟩, Hd0, Hd2, Hd4⟩
  iapply (runs_part2 m K c) $$ HR HO Hp Hs0 Hs1 Hd0 Ht0
  iintro HO Hb0 Hp Hs1
  iapply (runs_part3 m K c) $$ HR HO Hs1 Hd1 Ht1 Hx Hw Hp Hs2 Hd2 Ht2
  iintro HO Hb1 Hb2 Hx Hw Hp
  iapply (runs_part4 m K c) $$ HR HO Hx Hw Hp Hs3 Hd3 Ht3
  iintro HO Hb3 Hx Hw Hp
  iapply (runs_part5 m K c) $$ HR HO Hp Hl0 Hs4
  iintro HO Hp Hz0 Hr0 Hs4
  iapply (runs_part6 m K c) $$ HR HO Hs4 Hd4 Ht4 Hp Hl1 Hs5 Hd5 Ht5
  iintro HO Hb4 Hb5 Hp Hz1 Hr1
  iapply (runs_part7 m K c) $$ HR HO Hp Hl3 Hl4
  iintro HO Hp Hg3 Hg4
  iapply (runs_part8 m K c) $$ HR HO Hp Ho Hl2 Hl5
  iintro HO Hp Ho Hz2 Hr2 Hz5 Hr5
  iapply (runs_part9 m K c) $$ HR HO Hr2 Hr5 Ho Ha0 Hb0
  iintro HO Hr2 Hr5 Ho Hq0
  iapply (runs_part10 m K c) $$ HR HO Ha1 Hb1 Ha2 Hb2 Ha3 Hb3 Ha4 Hb4
  iintro HO Hq1 Hq2 Hq3 Hq4
  simp only [Prog.lift, Prog.pure_eq_ret]
  iapply (step_back' m K c 5 rfl) $$ HR HO Ha5 Hb5; iintro HO Hq5
  rw [wp_ret]
  iapply (runs_ret c _)
  imodintro
  iapply Hk $$ HO Hzb [Hq0 Hq1 Hq2 Hq3 Hq4 Hq5] [Hz0 Hr0 Hz1 Hr1 Hz2 Hr2 Hg3 Hg4 Hz5 Hr5] Hp Hx Hw Ho
  · isplitl [Hq0]; · iexact Hq0
    isplitl [Hq1]; · iexact Hq1
    isplitl [Hq2]; · iexact Hq2
    isplitl [Hq3]; · iexact Hq3
    isplitl [Hq4]; · iexact Hq4
    iexact Hq5
  · unfold gotSlot
    isplitl [Hz0 Hr0]
    · isplitl [Hz0] <;> iassumption
    isplitl [Hz1 Hr1]
    · isplitl [Hz1] <;> iassumption
    isplitl [Hz2 Hr2]
    · isplitl [Hz2] <;> iassumption
    isplitl [Hg3]; · iexact Hg3
    isplitl [Hg4]; · iexact Hg4
    isplitl [Hz5] <;> iassumption

end Cert.KernelIdeal.Ring
-- ==== Proof.KernelIdeal.Data.lean ====
/-
# The body as the launch asks for it

The six slots cut out of their buffers and put together again; what a device starts from and what it ends with; the
contents of the staging buffers before and after; and the statement that the kernel, called on the staging buffers, takes
the one to the other.
-/
module

public import proofs.«01_k».proof.Proof.KernelIdeal.Body
public import proofs.«01_k».proof.Proof.Gen.KernelIdeal.Points
public import Idealize.ShloMosaic.Lib.MemrefSat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ) (ρ : Dev nD → PrngReg)

/-- The state at launch: any memory, every semaphore at zero. -/
def s₀ : MemSt nD τ sig (Elt F) := ⟨m, fun _ => 0, ρ⟩

/-! ## Slots and their buffer -/

omit [FloatOps F] in
/-- Two slots do not meet. -/
theorem slots_disjoint (j k : Fin 6) (h : j ≠ k) : Disjoint (slotR j).set (slotR k).set := by
  refine Rect.unit_disjoint (0 : Fin 3) ?_
  have hne : j.val ≠ k.val := fun e => h (Fin.ext e)
  show j.val + 1 ≤ k.val ∨ k.val + 1 ≤ j.val
  omega

omit [FloatOps F] in
/-- The slots fill their buffer. -/
theorem slots_cover : (Finset.univ : Finset (Fin 6)).biUnion (fun j => (slotR j).set) = Finset.univ := by
  refine Finset.eq_univ_of_forall fun i => Finset.mem_biUnion.mpr ⟨⟨(i 0).val, (i 0).isLt⟩, Finset.mem_univ _, ?_⟩
  rw [← Rect.map_emb_univ, Finset.mem_map]
  refine ⟨ValueIdx.ix3 0 ⟨(i 1).val, (i 1).isLt⟩ ⟨(i 2).val, (i 2).isLt⟩, Finset.mem_univ _, funext fun a => Fin.ext ?_⟩
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

/-- Every element type has a value. -/
theorem elt_nonempty (e : EltTy) : Nonempty (Elt F e) := by
  cases e
  case fp8e4m3 => exact ⟨FloatOps.ofBits _ 0⟩
  case fp8e5m2 => exact ⟨FloatOps.ofBits _ 0⟩
  case bf16 => exact ⟨FloatOps.ofBits _ 0⟩
  case f16 => exact ⟨FloatOps.ofBits _ 0⟩
  case f32 => exact ⟨FloatOps.ofBits _ 0⟩
  all_goals exact ⟨(0 : BitVec _)⟩

omit [FloatOps F] in
/-- A buffer of six slots, cut. -/
theorem slots_cut (c : Dev nD) (M : Memref sig .tc .vmem S6x256x512 .bf16) (X : S6x256x512.Idx → Elt F .bf16) :
    (owns (c : Thread nD τ) M fullShare X : sProp 𝕄)
      ⊢ bigSep Finset.univ fun j => iprop(∃ Y, owns (c : Thread nD τ) (M.slice (slotR j) (fun _ => rfl)) fullShare Y) :=
  (owns_rects (c : Thread nD τ) M fullShare slotR (fun _ _ => rfl) slots_disjoint slots_cover X).trans
    (bigSep_mono fun j _ => show (owns (c : Thread nD τ) (M.slice (slotR j) (fun _ => rfl)) fullShare (fun i => X ((slotR j).emb i)) : sProp 𝕄)
      ⊢ iprop(∃ Y, owns (c : Thread nD τ) (M.slice (slotR j) (fun _ => rfl)) fullShare Y) from by iintro H; iexists _; iexact H)

/-- Its slots, put together. -/
theorem slots_join (c : Dev nD) (M : Memref sig .tc .vmem S6x256x512 .bf16) (Y : Fin 6 → S1x256x512.Idx → Elt F .bf16) :
    (bigSep Finset.univ fun j => owns (c : Thread nD τ) (M.slice (slotR j) (fun _ => rfl)) fullShare (Y j))
      ⊢ (iprop(∃ X, owns (c : Thread nD τ) M fullShare X) : sProp 𝕄) := by
  haveI : ∀ e, Nonempty (Elt F e) := elt_nonempty
  have hg (j : Fin 6) : (fun i => Rect.glue slotR slots_cover Y ((slotR j).emb i)) = Y j :=
    funext fun i => Rect.glue_emb slotR slots_cover slots_disjoint Y j i
  iintro H
  iexists (Rect.glue slotR slots_cover Y)
  iapply (owns_of_rects (c : Thread nD τ) M fullShare slotR (fun _ _ => rfl) slots_disjoint slots_cover (Rect.glue slotR slots_cover Y))
  simp only [hg]
  iexact H

/-! ## Start and end of a device -/

/-- The kernel's own semaphores: the transfer semaphores. -/
abbrev osem (k : Fin 6 ⊕ Fin 6) : SemLoc sig := csem (.inr k)

/-- What only device `c` holds at the start: its positions and the tokens it pays with. -/
def linear (c : Dev nD) : sProp 𝕄 :=
  iprop(atPos ERing (barCell c) 0 ∅ 0 ∗ bigSep Finset.univ (backPos c) ∗ bigSep Finset.univ (fun j => atPos ERing (vCell c j) 0 ∅ 0)
    ∗ dutyTok ERing (barCell (prv c)) 0 true ∗ dutyTok ERing (barCell (nxt c)) 0 false ∗ bigSep Finset.univ (tokPair c))

/-- The credit it holds: two units of its barrier, a transfer's at each receive cell. -/
def credits (c : Dev nD) : sProp 𝕄 :=
  iprop(cred (tallyAt (barCell c) () 2) ∗ bigSep Finset.univ (fun j => cred (tallyAt (vCell c j) () N)))

/-- All it starts from. -/
def start (c : Dev nD) : sProp 𝕄 := iprop(∃ K, recs m K ∗ linear c ∗ credits c)

/-- Before the kernel: the start, and the kernel's own buffers; -/
def Φ₀ (c : Dev nD) : sProp 𝕄 := iprop(start m c ∗ Pipeline.scopedRest cfg0.spec c)
/-- after it: those buffers, and every semaphore at zero. -/
def Φ₁ (c : Dev nD) : sProp 𝕄 :=
  iprop(Pipeline.scopedRest cfg0.spec c ∗ Pipeline.ownSems0 osem c ∗ semVal (barCell c) 0)

/-- The contents of the staging buffers after the kernel, what is held before and after, and what is owed. -/
def dats (_ : Fin 1) (c : Dev nD) : Dat τ (Elt F) Unit ℕ GhostU ℕ cfg0 c where
  A w := (s₀ m ρ).mem ((cfg0.win w).arr.view.loc (c : Thread nD τ))
  after w _ := match w with
    | ⟨0, _⟩ => xs m c
    | ⟨1, _⟩ => ws m c
    | ⟨2, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-- The kernel's loops need no variants. -/
abbrev 𝒱₀ : Variants := Variants.none

/-- A staging buffer holding `X`, as the launch says it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A whole buffer owned is the buffer at those contents. -/
theorem whole_stg (c : Dev nD) (b : Ref sig .tc) (X : b.ty.Contents (Elt F)) :
    (owns (Ix := Unit) (Name := ℕ) (U := GhostU) (Lvl := ℕ) (c : Thread nD τ) (Memref.whole b) fullShare X : sProp 𝕄) = stg c b X :=
  owns_whole_eq (c : Thread nD τ) b fullShare X

/-- What the kernel is called with. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What it leaves. -/
def bodyPost (c : Dev nD) : sProp 𝕄 :=
  iprop(Φ₁ c ∗ (dats m ρ 0 c).owesAt () t0_0.succ ∗ stg c cc0_stg0_0 (xs m c) ∗ stg c cc0_stg1_0 (ws m c) ∗ stg c cc0_stg2_0 (outAt m c))

/-- The staged block of `x` as fetched; -/
theorem before_x (c : Dev nD) (d) : (dats m ρ 0 c).before (0 : Fin 3) t0_0 d = xs m c := by
  unfold Dat.before; rw [if_pos (fetch0_0 t0_0)]; rfl
/-- that of `w`. -/
theorem before_w (c : Dev nD) (d) : (dats m ρ 0 c).before (1 : Fin 3) t0_0 d = ws m c := by
  unfold Dat.before; rw [if_pos (fetch0_1 t0_0)]; rfl

omit [FloatOps F] in
/-- The launch's two families of own semaphores. -/
theorem ownSems_eq (c : Dev nD) : (Pipeline.ownSems0 (Ix := Unit) (Name := ℕ) (U := GhostU) (Lvl := ℕ) (Val := Elt F) (τ := τ) osem c : sProp 𝕄)
    = iprop((bigSep Finset.univ fun j => semVal (sCell c j) 0) ∗ bigSep Finset.univ fun j => semVal (vCell c j) 0) := by
  unfold Pipeline.ownSems0; rw [bigSep_univ_sum]; rfl

/-- The slots come apart into semaphores and contents. -/
theorem back_split (c : Dev nD) : bigSep Finset.univ (backSlot m c)
    ⊢ iprop((bigSep Finset.univ fun j => semVal (sCell c j) 0) ∗ bigSep Finset.univ fun j => soHas c j (sent m j c)) := by
  unfold backSlot; rw [bigSep_sep']
/-- So do the landing slots. -/
theorem got_split (c : Dev nD) : bigSep Finset.univ (gotSlot m c)
    ⊢ iprop((bigSep Finset.univ fun j => semVal (vCell c j) 0) ∗ bigSep Finset.univ fun j => riHas c j (landed m j c)) := by
  unfold gotSlot; rw [bigSep_sep']

/-- Positions and credits of the receive cells make what the waits need. -/
theorem land_make (c : Dev nD) : iprop((bigSep Finset.univ fun j => atPos ERing (vCell c j) 0 ∅ 0) ∗ bigSep Finset.univ fun j => cred (tallyAt (vCell c j) () N))
    ⊢ (bigSep Finset.univ (landKit c) : sProp 𝕄) := by
  unfold landKit; rw [bigSep_sep']

set_option maxHeartbeats 800000 in
/-- The kernel, from what it is called with to what it leaves. -/
theorem sound_body (c : Dev nD) : bodyPre m ρ c ⊢ runs c
    (cc0_body xM (Memref.isWhole_whole _) wM (Memref.isWhole_whole _) oM (Memref.isWhole_whole _) pM (Memref.isWhole_whole _)
      soM (Memref.isWhole_whole _) riM (Memref.isWhole_whole _) cc0_scratch3 cc0_scratch4) (fun _ => bodyPost m ρ c) := by
  unfold bodyPre Φ₀ start linear credits Dat.owesAt Pipeline.owesWithin
  simp only [before_x, before_w]
  rw [scopedRest0_eq]
  iintro ⟨⟨⟨%K, #HR, ⟨Hat, Ha, Hv, Htp, Htn, Ht⟩, Hc, Hcv⟩, ⟨%f0, Hp⟩, ⟨%f1, Hso⟩, ⟨%f2, Hri⟩⟩, ⟨%W, %hW, HO⟩, ⟨%d0, %g0, %hg0, Hx⟩, ⟨%d1, %g1, %hg1, Hw⟩, ⟨%d2, %g2, %hg2, Ho⟩⟩
  subst hg0 hg1
  rw [show (dats m ρ 0 c).owed t0_0.castSucc = owed₀ c from rfl]
  ihave Hl := (land_make (F := F) c) $$ [Hv Hcv]
  · isplitl [Hv] <;> iassumption
  ihave Hs := (show ((c : Thread nD τ).loc cc0_scratch1 ↦{fullShare} f1 : sProp 𝕄) ⊢ bigSep Finset.univ (soAny c) from
    (Entails.of_eq (owns_whole (c : Thread nD τ) cc0_scratch1 fullShare f1).symm).trans (slots_cut c soM f1)) $$ Hso
  ihave Hr := (show ((c : Thread nD τ).loc cc0_scratch2 ↦{fullShare} f2 : sProp 𝕄) ⊢ bigSep Finset.univ (riAny c) from
    (Entails.of_eq (owns_whole (c : Thread nD τ) cc0_scratch2 fullShare f2).symm).trans (slots_cut c riM f2)) $$ Hri
  iapply (runs_body m K c (f := g2)) $$ HR [HO] Htp Htn Hat Hc Ht Ha Hl [Hp] Hs Hr [Hx] [Hw] [Ho]
  · unfold owing; iexists W; iexact HO
  · unfold prods; iexists f0; isplitr
    · ipureintro; exact fun k hk => absurd hk (Finset.notMem_empty k)
    iexact Hp
  · unfold xHas; iexact Hx
  · unfold wHas; iexact Hw
  · unfold oHas; iexact Ho
  unfold owing prods xHas wHas oHas
  iintro ⟨%W', HO⟩ Hzb Hq Hg ⟨%f0', %hf0', Hp⟩ Hx Hw Ho
  ihave Hq' := (back_split m c) $$ Hq
  ihave Hg' := (got_split m c) $$ Hg
  icases Hq' with ⟨Hzs, Hso⟩
  icases Hg' with ⟨Hzv, Hri⟩
  ihave Hso' := (slots_join c soM (fun j => sent m j c)) $$ Hso
  ihave Hri' := (slots_join c riM (fun j => landed m j c)) $$ Hri
  icases Hso' with ⟨%X1, Hso⟩
  icases Hri' with ⟨%X2, Hri⟩
  unfold bodyPost Φ₁ Dat.owesAt Pipeline.owesWithin
  rw [show (dats m ρ 0 c).owed t0_0.succ = 0 from rfl, scopedRest0_eq, ownSems_eq]
  isplitl [Hp Hso Hri Hzs Hzv Hzb]
  · isplitl [Hp Hso Hri]
    · isplitl [Hp]; · iexists f0'; iexact Hp
      isplitl [Hso]
      · iexists X1; iapply (Entails.of_eq (owns_whole (c : Thread nD τ) cc0_scratch1 fullShare X1)); iexact Hso
      · iexists X2; iapply (Entails.of_eq (owns_whole (c : Thread nD τ) cc0_scratch2 fullShare X2)); iexact Hri
    isplitl [Hzs Hzv]
    · isplitl [Hzs] <;> iassumption
    iexact Hzb
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
/-- The launch's obligation: the kernel called on the staging buffers. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [whole_stg]
  exact sound_body m ρ c

end Cert.KernelIdeal.Ring
-- ==== Proof.KernelIdeal.Launch.lean ====
/-
# The launch

The ghost state of all devices' cells is made at once, dealt to the devices that use it, and every device then runs its
body. What comes out: the run of the whole program on four devices terminates, with every array at contents the library
computes from the bodies' and every semaphore at zero.
-/
module

public import proofs.«01_k».proof.Proof.KernelIdeal.Data
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GhostU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- A device's cells are distinct semaphores. -/
theorem csem_injective : Function.Injective csem := by decide
omit [FloatOps F] in
/-- The cells of all devices are distinct. -/
theorem kcell_injective : Function.Injective (kcell : Dev nD × CellIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- All cells of the ring. -/
def ringCells : Finset (GSem nD τ sig) := Finset.univ.map ⟨kcell, kcell_injective⟩

/-- A device's duties: two at its barrier, one at each transfer cell. -/
abbrev TokIx : Type := Bool ⊕ (Fin 6 ⊕ Fin 6)
/-- The cell and the name of each. -/
abbrev tokOf (cj : Dev nD × TokIx) : GSem nD τ sig × ℕ × Bool := match cj.2 with
  | .inl b => (barCell cj.1, 0, b)
  | .inr k => (kcell (cj.1, .inr k), 0, false)

omit [FloatOps F] in
/-- The duties are distinct. -/
theorem tokOf_injective : Function.Injective (tokOf : Dev nD × TokIx → GSem nD τ sig × ℕ × Bool) := by
  rintro ⟨c, k⟩ ⟨c', k'⟩ h
  have h1 : c = c' := by
    have := congrArg (fun x : GSem nD τ sig × ℕ × Bool => x.1.1.1) h
    cases k <;> cases k' <;> exact this
  subst h1
  have h2 := congrArg (fun x : GSem nD τ sig × ℕ × Bool => x.1.2) h
  have h3 := congrArg (fun x : GSem nD τ sig × ℕ × Bool => x.2.2) h
  cases k with
  | inl b => cases k' with
    | inl b' => rw [show b = b' from h3]
    | inr k' => exact absurd (csem_injective (show csem (.inl ()) = csem (.inr k') from h2)) (fun e => by cases e)
  | inr k => cases k' with
    | inl b' => exact absurd (csem_injective (show csem (.inr k) = csem (.inl ()) from h2)) (fun e => by cases e)
    | inr k' => rw [show k = k' from Sum.inr.inj (csem_injective (show csem (.inr k) = csem (.inr k') from h2))]

/-- All duties of the ring. -/
def ringToks : Finset (GSem nD τ sig × ℕ × Bool) := Finset.univ.map ⟨tokOf, tokOf_injective⟩

/-- The ghost state at launch. -/
def u₀ : GhostU := (initOf (Pipeline.cells cfgs cellOf_inj) (Pipeline.launchToks cfgs cellOf_inj), initOf ringCells ringToks)

/-- The tokens of device `c`'s own cells. -/
def toks (c : Dev nD) : sProp 𝕄 :=
  iprop((dutyTok ERing (barCell c) 0 false ∗ dutyTok ERing (barCell c) 0 true)
    ∗ (bigSep Finset.univ fun j => dutyTok ERing (sCell c j) 0 false) ∗ bigSep Finset.univ fun j => dutyTok ERing (vCell c j) 0 false)

/-- What the launch deals device `c`; -/
def G (c : Dev nD) : sProp 𝕄 :=
  iprop((bigSep Finset.univ fun k : CellIx => roundState ERing (rd m) (kcell (c, k)) 0)
    ∗ (bigSep Finset.univ fun k : CellIx => iprop(atPos ERing (kcell (c, k)) 0 ∅ 0 ∗ reached ERing (kcell (c, k)) 0)) ∗ toks c)

/-- The invariants and rounds of all cells, under the names `K`. -/
def cellRecs (K : Dev nD × CellIx → ℕ) : sProp 𝕄 :=
  iprop((bigSep Finset.univ fun ck : Dev nD × CellIx => cellInv ERing (rd m) (K ck) (kcell ck))
    ∗ bigSep Finset.univ fun ck : Dev nD × CellIx => reached ERing (kcell ck) 0)

instance cellRecs_persistent (K : Dev nD × CellIx → ℕ) : BI.Persistent (cellRecs m K) := by unfold cellRecs; infer_instance

/-- what device `c` holds once all cells' invariants are made. -/
def G' (c : Dev nD) : sProp 𝕄 := iprop(∃ K, cellRecs m K ∗ linear c)

omit [FloatOps F] in
/-- A family over a device's cells, by kind. -/
theorem cells_by_kind (Φ : CellIx → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_univ_of_subsingleton ()]
  rfl

omit [FloatOps F] in
/-- A device's tokens, by kind. -/
theorem toks_eq (c : Dev nD) : (bigSep Finset.univ fun k : TokIx => dutyTok ERing (tokOf (c, k)).1 (tokOf (c, k)).2.1 (tokOf (c, k)).2.2 : sProp 𝕄) = toks c := by
  rw [bigSep_univ_sum, bigSep_univ_sum, bigSep_univ_eq_bigSepL [false, true] (by decide) (by decide), bigSepL_cons_cons, bigSepL_singleton]
  rfl

/-- The ghost state of the ring, dealt to the devices. -/
theorem fund_ring : BI.own (ERing (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ERing x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ERing (rd m) ringCells ringToks) $$ HX with ⟨Hst, Hr, Hat, Htok⟩
  imodintro
  ihave Hst' := (Entails.of_eq (hX fun g => roundState ERing (rd m) g 0)) $$ Hst
  ihave Hat' := (Entails.of_eq (hX fun g => atPos ERing g 0 ∅ 0)) $$ Hat
  ihave Hr' := (Entails.of_eq (hX fun g => reached ERing g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's semaphores at zero. -/
theorem sems0_eq (c : Dev nD) :
    iprop(Pipeline.ownSems0 (Ix := Unit) (Name := ℕ) (U := GhostU) (Lvl := ℕ) (Val := Elt F) (τ := τ) osem c ∗ unscopedSems0 c)
      ⊢ (bigSep Finset.univ fun k : CellIx => semVal (kcell (c, k)) 0 : sProp 𝕄) := by
  rw [ownSems_eq, unscopedSems0_eq, cells_by_kind]
  iintro ⟨HT, HB⟩
  isplitl [HB] <;> iassumption

/-- One device's invariants made. -/
theorem core_alloc (c : Dev nD) :
    iprop(Pipeline.ownSems0 (Ix := Unit) (Name := ℕ) (U := GhostU) (Lvl := ℕ) (Val := Elt F) (τ := τ) osem c ∗ unscopedSems0 c ∗ G m c)
      ⊢ |={Set.univ}=> iprop((bigSep Finset.univ fun k => iprop(∃ κ : ℕ, cellInv ERing (rd m) κ (kcell (c, k))))
          ∗ (bigSep Finset.univ fun k => iprop(atPos ERing (kcell (c, k)) 0 ∅ 0 ∗ reached ERing (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ERing (rd m) (kcell (c, k)) 0)
      ⊢ (|={Set.univ}=> bigSep Finset.univ fun k => iprop(∃ κ : ℕ, cellInv ERing (rd m) κ (kcell (c, k))) : sProp 𝕄) from by
        rw [← bigSep_sep']
        exact (bigSep_mono fun k _ => (Rounds.body_intro ERing (rd m) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens go to the devices that pay -/

/-- The tokens device `c` pays with. -/
def payToks (c : Dev nD) : sProp 𝕄 :=
  iprop((dutyTok ERing (barCell (prv c)) 0 true ∗ dutyTok ERing (barCell (nxt c)) 0 false)
    ∗ (bigSep Finset.univ fun j => dutyTok ERing (sCell c j) 0 false) ∗ bigSep Finset.univ fun j => dutyTok ERing (vCell (dest j c) j) 0 false)

omit [FloatOps F] in
/-- The tokens of the receive cells, dealt each along its slot's way. -/
theorem recv_toks : (bigSep Finset.univ fun c : Dev nD => bigSep Finset.univ fun j => (dutyTok ERing (vCell c j) 0 false : sProp 𝕄))
    = bigSep Finset.univ fun c : Dev nD => bigSep Finset.univ fun j => dutyTok ERing (vCell (dest j c) j) 0 false := by
  rw [bigSep_univ_comm, bigSep_univ_comm (fun (c : Dev nD) j => (dutyTok ERing (vCell (dest j c) j) 0 false : sProp 𝕄))]
  exact bigSep_congr fun j _ => bigSep_univ_equiv (way j) (fun c : Dev nD => (dutyTok ERing (vCell c j) 0 false : sProp 𝕄))

omit [FloatOps F] in
/-- All tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_toks,
    bigSep_univ_equiv ringUp (fun c : Dev nD => (dutyTok ERing (barCell c) 0 false : sProp 𝕄)),
    bigSep_univ_equiv ringUp.symm (fun c : Dev nD => (dutyTok ERing (barCell c) 0 true : sProp 𝕄))]
  iintro ⟨⟨H1, H2⟩, H3, H4⟩
  isplitl [H1 H2]
  · isplitl [H2]; · iexact H2
    iexact H1
  isplitl [H3] <;> iassumption

omit [FloatOps F] in
/-- Positions and tokens of one device, collected. -/
theorem linear_intro (c : Dev nD) : iprop((bigSep Finset.univ fun k : CellIx => atPos ERing (kcell (c, k)) 0 ∅ 0) ∗ payToks c) ⊢ (linear c : sProp 𝕄) := by
  unfold payToks linear backPos tokPair
  rw [cells_by_kind, bigSep_sep']
  iintro ⟨⟨Hb, Hs, Hv⟩, ⟨Ht, Hf⟩, H3, H4⟩
  isplitl [Hb]; · iexact Hb
  isplitl [Hs]; · iexact Hs
  isplitl [Hv]; · iexact Hv
  isplitl [Ht]; · iexact Ht
  isplitl [Hf]; · iexact Hf
  isplitl [H3] <;> iassumption

omit [FloatOps F] in
/-- What holds for good may be used by every member of a family. -/
theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names of all cells chosen at once, and everything dealt. -/
theorem regroup :
    (bigSep Finset.univ fun c : Dev nD => iprop((bigSep Finset.univ fun k => iprop(∃ κ : ℕ, cellInv ERing (rd m) κ (kcell (c, k))))
          ∗ (bigSep Finset.univ fun k => iprop(atPos ERing (kcell (c, k)) 0 ∅ 0 ∗ reached ERing (kcell (c, k)) 0)) ∗ toks c) : sProp 𝕄)
      ⊢ bigSep Finset.univ (G' m) := by
  rw [bigSep_sep', bigSep_sep', ← bigSep_univ_prod (fun ck : Dev nD × CellIx => iprop(∃ κ : ℕ, cellInv ERing (rd m) κ (kcell ck))),
    bigSep_congr (s := Finset.univ) (fun (c : Dev nD) _ => bigSep_sep' Finset.univ (fun k : CellIx => (atPos ERing (kcell (c, k)) 0 ∅ 0 : sProp 𝕄)) (fun k => reached ERing (kcell (c, k)) 0)),
    bigSep_sep', ← bigSep_univ_prod (fun ck : Dev nD × CellIx => (reached ERing (kcell ck) 0 : sProp 𝕄))]
  iintro ⟨HI, ⟨Hat, #HR⟩, Htok⟩
  ihave HK := (BI.bigSep_exists_pi Finset.univ (fun (ck : Dev nD × CellIx) (κ : ℕ) => (cellInv ERing (rd m) κ (kcell ck) : sProp 𝕄))) $$ HI
  icases HK with ⟨%K, #HI⟩
  ihave Htk := (toks_around (F := F)) $$ Htok
  iapply (share_persistent (R := cellRecs m K) (Φ := linear) fun c _ => show iprop(cellRecs m K ∗ linear c) ⊢ G' m c from by
    unfold G'
    iintro H
    iexists K
    iexact H)
  isplitr
  · unfold cellRecs; isplitl; · iexact HI
    iexact HR
  · iapply ((Entails.of_eq (bigSep_sep' Finset.univ (fun c : Dev nD => bigSep Finset.univ fun k : CellIx => (atPos ERing (kcell (c, k)) 0 ∅ 0 : sProp 𝕄)) payToks).symm).trans
      (bigSep_mono fun c _ => linear_intro c))
    isplitl [Hat] <;> iassumption

/-- The step over all devices at once. -/
theorem glob : (bigSep Finset.univ fun c => iprop(Pipeline.ownSems0 (Ix := Unit) (Name := ℕ) (U := GhostU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

omit [FloatOps F] in
theorem bar_eq_iff {a b : Dev nD} : Iff (barCell a = barCell b) (a = b) :=
  ⟨fun h => congrArg (fun g : GSem nD τ sig => g.1.1) h, fun h => h ▸ rfl⟩
omit [FloatOps F] in
theorem recv_ne_bar (a b : Dev nD) (j : Fin 6) : barCell a ≠ vCell b j := fun h => by cases congrArg Prod.snd h
omit [FloatOps F] in
theorem recv_eq_iff {a b : Dev nD} {i j : Fin 6} : Iff (vCell a i = vCell b j) (a = b ∧ i = j) := by
  constructor
  · intro h
    have h' := kcell_injective (show kcell (a, .inr (.inr i)) = kcell (b, .inr (.inr j)) from h)
    cases h'
    exact ⟨rfl, rfl⟩
  · rintro ⟨rfl, rfl⟩; rfl

omit [FloatOps F] in
/-- The sends owe a barrier nothing. -/
theorem owed_at_bar (d c : Dev nD) (l : List (Fin 6)) : owed d l (barCell c) () = 0 := by
  induction l with
  | nil => rfl
  | cons i l ih =>
    unfold owed
    rw [Pi.add_apply, Finsupp.add_apply, ih, tallyAt_apply, if_neg fun h => recv_ne_bar _ _ _ h.1]

omit [FloatOps F] in
/-- What the sends of device `d` owe the receive cell of `c`'s slot `j`: a transfer's credit if `d` is the device that fills it. -/
theorem owed_at_recv (d c : Dev nD) (j : Fin 6) (l : List (Fin 6)) : owed d l (vCell c j) () = l.count j * if d = from_ j c then N else 0 := by
  induction l with
  | nil => rw [List.count_nil, Nat.zero_mul]; rfl
  | cons i l ih =>
    unfold owed
    rw [Pi.add_apply, Finsupp.add_apply, ih, tallyAt_apply, List.count_cons, Nat.add_mul]
    congr 1
    by_cases hi : i = j
    · subst hi
      rw [beq_self_eq_true, if_pos rfl, Nat.one_mul]
      by_cases hd : d = from_ i c
      · subst hd
        rw [dest_from, if_pos ⟨rfl, rfl⟩, if_pos rfl]
      · rw [if_neg hd, if_neg]
        rintro ⟨h, -⟩
        exact hd (by rw [(recv_eq_iff.mp h).1, from_dest])
    · rw [beq_eq_false_iff_ne.mpr hi, if_neg (Bool.false_ne_true), Nat.zero_mul, if_neg]
      rintro ⟨h, -⟩
      exact hi (recv_eq_iff.mp h).2.symm

omit [FloatOps F] in
/-- What device `d` owes `c`'s barrier: a unit if it is next to it on one side, a unit if on the other. -/
theorem owed_bar (d c : Dev nD) : owed₀ d (barCell c) () = (if d = prv c then 1 else 0) + (if d = nxt c then 1 else 0) := by
  unfold owed₀ owed₁
  rw [Pi.add_apply, Finsupp.add_apply, Pi.add_apply, Finsupp.add_apply, owed_at_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

omit [FloatOps F] in
/-- What it owes a receive cell. -/
theorem owed_recv (d c : Dev nD) (j : Fin 6) : owed₀ d (vCell c j) () = if d = from_ j c then N else 0 := by
  unfold owed₀ owed₁
  rw [Pi.add_apply, Finsupp.add_apply, Pi.add_apply, Finsupp.add_apply, owed_at_recv, tallyAt_apply, tallyAt_apply,
    if_neg (fun h : vCell c j = barCell (nxt d) ∧ () = () => recv_ne_bar _ _ _ h.1.symm),
    if_neg (fun h : vCell c j = barCell (prv d) ∧ () = () => recv_ne_bar _ _ _ h.1.symm), show allSlots.count j = 1 by revert j; decide, Nat.one_mul]
  rfl

omit [FloatOps F] in
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) (j : Fin 6) :
    tallyOn (vCell c j) (launchCredit (Pipeline.owing owed₀) 0 (vCell c j)) = (tallyAt (vCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (from_ j c) fun _ => N,
    if_pos (Finset.mem_univ _)]

/-- The receive semaphores as semaphores of the device. -/
def recvSem : Fin 6 ↪ SemLoc sig := ⟨fun j => .dma (vSem j), by decide⟩

omit [FloatOps F] in
/-- The credit a device starts with. -/
theorem creds (c : Dev nD) : (Pipeline.launchCred owed₀ c : sProp 𝕄) ⊢ credits c := by
  unfold Pipeline.launchCred credits
  rw [bigSep_univ_at _ (SemLoc.reg barS), launch_bar]
  refine sep_mono_right ?_
  refine (bigSep_subset (t := Finset.univ.map recvSem) fun s hs => ?_).trans (Entails.of_eq ((bigSep_map recvSem).trans ?_))
  · obtain ⟨j, -, rfl⟩ := Finset.mem_map.mp hs
    exact Finset.mem_erase.mpr ⟨(by cases ·), Finset.mem_univ _⟩
  · exact bigSep_congr fun j _ => congrArg cred (launch_recv c j)

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold start G' recs cellRecs
  iintro ⟨-, Hlev, Hcr, -, ⟨%K, ⟨HI, HR⟩, HG⟩⟩
  ihave Hc := (creds (F := F) c) $$ Hcr
  imodintro
  isplitl
  · iexists K
    isplitl [HI HR Hlev]
    · isplitl [HI]; · iexact HI
      isplitl [HR] <;> iassumption
    isplitl [HG] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨Hr, Ho, Hb⟩
  isplitl [Hb]; · iexact Hb
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N

/-- Every array of every device holds those. -/
def Arrays : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, over any floats, from any memory with the semaphores at zero: the program terminates, its arrays
    end with the contents computed and the semaphores at zero. -/
theorem run_main : θ_run defs (onTc (τ := τ) (main (F := F))) (s₀ m ρ) (fun r => Arrays m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EPipe defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument `x` after the run is what it was; -/
theorem finalA_x (c : Dev nD) : finalA m ρ c (0 : Fin 3) = m ((c : Thread nD τ).loc main_arg0) :=
  (dats (F := F) m ρ 0 c).arrAt_in (0 : Fin 3) rfl _
/-- so is `w`; -/
theorem finalA_w (c : Dev nD) : finalA m ρ c (1 : Fin 3) = m ((c : Thread nD τ).loc main_arg1) :=
  (dats (F := F) m ρ 0 c).arrAt_in (1 : Fin 3) rfl _

/-- the result, read as the kernel's window reads it, is what the body left. -/
theorem finalA_o (c : Dev nD) : (win0_2.blk (0 : Fin 1)).view.read (Elt F) (finalA m ρ c (2 : Fin 3)) = outAt m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The arguments end as they were and every semaphore ends at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

end Cert.KernelIdeal.Ring
-- ==== Proof.Value.lean ====
/-
# The values

At the extended reals, the block of rows a device of the ring ends with is that block of the reference's result: the
partial products of the four devices, however they travelled, add up to the whole contraction, and the two spellings of
the epilogue are one function.
-/
module

public import proofs.«01_k».proof.Proof.KernelIdeal.Launch
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.ValueLayout
public import Idealize.ShloMosaic.Lib.IdealHost
public import Idealize.ShloMosaic.Lib.Layout
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.ShloMosaic.ValueIdx
open Idealize.SL.Sem
open scoped BigOperators

variable (m : (ℓ : Loc nD τ sig) → Buf (Elt Ideal) ℓ)

/-! ## The epilogue -/

/-- A value kept between the two bounds. -/
def clip (y : EReal) : EReal := min (Ideal.ofBits .f32 0x42700000#32) (max (Ideal.ofBits .f32 0xC2700000#32) y)
/-- The epilogue as the kernel spells it: a product with a reciprocal; -/
def silu (y : EReal) : EReal := y * Ideal.div 1 (1 + Ideal.exp (0 - clip y))
/-- as the reference does: a quotient. -/
def siluQuot (y : EReal) : EReal := Ideal.div y (1 + Ideal.exp (-(clip y)))

/-- The upper bound is a real number; -/
theorem hi_real : ∃ r : ℝ, Ideal.ofBits .f32 0x42700000#32 = (r : EReal) := by
  simp only [Ideal.ofBits, Ideal.ieee]
  rw [if_neg (by decide), if_neg (by decide)]
  exact ⟨_, rfl⟩
/-- so is the lower. -/
theorem lo_real : ∃ r : ℝ, Ideal.ofBits .f32 0xC2700000#32 = (r : EReal) := by
  simp only [Ideal.ofBits, Ideal.ieee]
  rw [if_neg (by decide), if_neg (by decide)]
  exact ⟨_, rfl⟩

/-- A clipped value is a real number, of an infinity too. -/
theorem clip_real (y : EReal) : ∃ r : ℝ, clip y = (r : EReal) := by
  obtain ⟨a, ha⟩ := hi_real
  obtain ⟨b, hb⟩ := lo_real
  unfold clip
  rw [ha, hb]
  induction y with
  | bot => exact ⟨min a b, by rw [max_eq_left bot_le]; exact (EReal.coe_strictMono.monotone.map_min).symm⟩
  | top => exact ⟨a, by rw [max_eq_right le_top, min_eq_left le_top]⟩
  | coe r => exact ⟨min a (max b r), by
      rw [EReal.coe_strictMono.monotone.map_min, EReal.coe_strictMono.monotone.map_max]⟩

/-- The two epilogues are equal. -/
theorem silu_eq (y : EReal) : silu y = siluQuot y := by
  unfold silu siluQuot
  rw [zero_sub]
  obtain ⟨r, hr⟩ := clip_real y
  have h : 1 + Ideal.exp (-(clip y)) = ((1 + Real.exp (-r) : ℝ) : EReal) := by
    rw [hr, ← EReal.coe_neg, EReal.coe_add]; rfl
  have h0 : (1 + Real.exp (-r) : ℝ) ≠ 0 := by positivity
  rw [h, Ideal.div_coe h0, Ideal.div_coe h0, one_mul]

/-! ## The partial products -/

/-- An entry of a partial product. -/
theorem part_at (c k : Dev nD) (i : Fin 256) (j : Fin 1024) : part m c k (ix2 i j)
    = ∑ t : Fin 256, xs m c (ix2 ⟨256 * k.val + i.val, by have : k.val < 4 := k.isLt; omega⟩ t) * ws m c (ix2 t j) := by
  unfold part k0_pay3 k0_pay1 k0_pay2
  dsimp only
  rw [shapeCast_self, shapeCast_self, shapeCast_self]
  refine (Ideal.matmul_plain_apply none (xrows (xs m c) k) (ws m c) (constant S256x1024 .f32 0x00000000#32) i j).trans ?_
  rw [constant_apply, Ideal.ofBits_zero_f32, zero_add]
  refine Finset.sum_congr rfl fun t _ => congrArg (· * _) ?_
  unfold xrows
  congr 1
  funext a; apply Fin.ext
  match a with
  | ⟨0, _⟩ => show 256 * k.val + 1 * i.val = _; rw [Nat.one_mul]
  | ⟨1, _⟩ => show 0 + 1 * t.val = t.val; omega

/-- A column of the left half; -/
theorem lhalf_at (P : Vec Ideal S256x1024 .f32) (i : Fin 256) (j : Fin 512) : lhalf P (ix2 i j) = P (ix2 i ⟨j.val, by omega⟩) := by
  unfold lhalf
  congr 1
  funext a; apply Fin.ext
  match a with
  | ⟨0, _⟩ => show 0 + 1 * i.val = i.val; omega
  | ⟨1, _⟩ => show 0 + 1 * j.val = j.val; omega
/-- of the right. -/
theorem rhalf_at (P : Vec Ideal S256x1024 .f32) (i : Fin 256) (j : Fin 512) : rhalf P (ix2 i j) = P (ix2 i ⟨512 + j.val, by omega⟩) := by
  unfold rhalf
  congr 1
  funext a; apply Fin.ext
  match a with
  | ⟨0, _⟩ => show 0 + 1 * i.val = i.val; omega
  | ⟨1, _⟩ => show 512 + 1 * j.val = 512 + j.val; omega

/-! ## What travels -/

/-- What goes from a slot of the first kind: a half of a partial product, unchanged by the rounding. -/
theorem pack_at (v : Vec Ideal S256x512 .f32) (u : Fin 1) (i : Fin 256) (j : Fin 512) :
    k0_pay4 v (ix3 u i j) = v (ix2 i j) ∧ k0_pay5 v (ix3 u i j) = v (ix2 i j)
      ∧ k0_pay7 v (ix3 u i j) = v (ix2 i j) ∧ k0_pay9 v (ix3 u i j) = v (ix2 i j) := by
  unfold k0_pay4 k0_pay5 k0_pay7 k0_pay9
  exact ⟨shapeCast_ab_1ab_apply _ _ u i j, shapeCast_ab_1ab_apply _ _ u i j, shapeCast_ab_1ab_apply _ _ u i j, shapeCast_ab_1ab_apply _ _ u i j⟩

/-- What goes from a slot that passes on: what came, with a half of a partial product added. -/
theorem pass_at (v : Vec Ideal S256x512 .f32) (w : Vec Ideal S1x256x512 .bf16) (u : Fin 1) (i : Fin 256) (j : Fin 512) :
    k0_pay12 v w (ix3 u i j) = v (ix2 i j) + w (ix3 (0 : Fin 1) i j) ∧ k0_pay13 v w (ix3 u i j) = v (ix2 i j) + w (ix3 (0 : Fin 1) i j) := by
  have h : k0_pay12 v w (ix3 u i j) = v (ix2 i j) + w (ix3 (0 : Fin 1) i j) := by
    unfold k0_pay12
    refine (shapeCast_ab_1ab_apply _ _ u i j).trans ?_
    rw [truncf_apply, addf_apply, extf_apply]
    exact congrArg (v (ix2 i j) + ·) (shapeCast_1ab_ab_apply w _ i j)
  exact ⟨h, h⟩

/-- The sum a device ends with, of its own half and of the two that land. -/
def three (v : Vec Ideal S256x512 .f32) (a b : Vec Ideal S1x256x512 .bf16) (i : Fin 256) (j : Fin 512) : EReal :=
  v (ix2 i j) + a (ix3 (0 : Fin 1) i j) + b (ix3 (0 : Fin 1) i j)

theorem pay14_at (v : Vec Ideal S256x512 .f32) (a b : Vec Ideal S1x256x512 .bf16) (i : Fin 256) (j : Fin 512) :
    k0_pay14 v a b (ix2 i j) = three v a b i j := by
  unfold k0_pay14 three
  rw [addf_apply, addf_apply, extf_apply, extf_apply, shapeCast_1ab_ab_apply, shapeCast_1ab_ab_apply]

/-- The left half's epilogue; -/
theorem left_at (v : Vec Ideal S256x512 .f32) (a b : Vec Ideal S1x256x512 .bf16) (i : Fin 256) (j : Fin 512) :
    k0_pay17 (k0_pay14 v a b) (k0_pay15 v a b) k0_pay16 (ix2 i j) = silu (three v a b i j) := by
  unfold silu
  rw [← pay14_at v a b i j, ← Ideal.ofBits_one_f32, ← Ideal.ofBits_zero_f32]
  rfl
/-- the right's is the same. -/
theorem right_at (v : Vec Ideal S256x512 .f32) (a b : Vec Ideal S1x256x512 .bf16) (i : Fin 256) (j : Fin 512) :
    k0_pay18 v a b (ix2 i j) = silu (three v a b i j) := left_at v a b i j

/-- The four devices, from any one of them. -/
theorem around (c : Dev nD) (f : Dev nD → EReal) : f c + f (up c 3) + (f (up c 1) + f (up c 2)) = ∑ d : Dev nD, f d := by
  have hb : Function.Bijective fun r : Fin 4 => up c r.val := by revert c; decide
  have h0 : up c 0 = c := by clear * - c; revert c; decide
  rw [← hb.sum_comp f, Fin.sum_univ_four]
  show _ = f (up c 0) + f (up c 1) + f (up c 2) + f (up c 3)
  rw [h0]
  abel

/-- An entry of a device's left half; -/
theorem outL_at (c : Dev nD) (i : Fin 256) (j : Fin 512) :
    outL m c (ix2 i j) = silu (∑ d : Dev nD, part m d c (ix2 i ⟨j.val, by omega⟩)) := by
  have e3 : landed m 3 c (ix3 (0 : Fin 1) i j) = part m (up c 1) c (ix2 i ⟨j.val, by omega⟩) := by
    rw [show landed m 3 c = k0_pay9 (lhalf (part m (up c 1) (up (up c 1) 3))) from rfl, (pack_at _ _ i j).2.2.2, lhalf_at,
      show up (up c 1) 3 = c by revert c; decide]
  have e4 : landed m 4 c (ix3 (0 : Fin 1) i j)
      = part m (up c 3) c (ix2 i ⟨j.val, by omega⟩) + part m (up c 2) c (ix2 i ⟨j.val, by omega⟩) := by
    rw [show landed m 4 c = k0_pay12 (lhalf (part m (prv c) (up (prv c) 1))) (k0_pay4 (lhalf (part m (prv (prv c)) (up (prv (prv c)) 2)))) from rfl,
      (pass_at _ _ _ i j).1, (pack_at _ _ i j).1, lhalf_at, lhalf_at,
      show up (prv c) 1 = c by clear * - c; revert c; decide, show up (prv (prv c)) 2 = c by clear * - c; revert c; decide,
      show prv (prv c) = up c 2 by clear * - c; revert c; decide]
  unfold outL
  rw [left_at, ← around c]
  unfold three
  rw [e3, e4, lhalf_at]
  refine congrArg silu ?_
  generalize part m c c _ = x0, part m (up c 1) c _ = x1, part m (up c 2) c _ = x2, part m (up c 3) c _ = x3
  abel
/-- of its right half. -/
theorem outR_at (c : Dev nD) (i : Fin 256) (j : Fin 512) :
    outR m c (ix2 i j) = silu (∑ d : Dev nD, part m d c (ix2 i ⟨512 + j.val, by omega⟩)) := by
  have e2 : landed m 2 c (ix3 (0 : Fin 1) i j) = part m (up c 3) c (ix2 i ⟨512 + j.val, by omega⟩) := by
    rw [show landed m 2 c = k0_pay7 (rhalf (part m (prv c) (up (prv c) 1))) from rfl, (pack_at _ _ i j).2.2.1, rhalf_at,
      show up (prv c) 1 = c by revert c; decide]
  have e5 : landed m 5 c (ix3 (0 : Fin 1) i j)
      = part m (up c 1) c (ix2 i ⟨512 + j.val, by omega⟩) + part m (up c 2) c (ix2 i ⟨512 + j.val, by omega⟩) := by
    rw [show landed m 5 c = k0_pay13 (rhalf (part m (nxt c) (up (nxt c) 3))) (k0_pay5 (rhalf (part m (nxt (nxt c)) (up (nxt (nxt c)) 2)))) from rfl,
      (pass_at _ _ _ i j).2, (pack_at _ _ i j).2.1, rhalf_at, rhalf_at,
      show up (nxt c) 3 = c by clear * - c; revert c; decide, show up (nxt (nxt c)) 2 = c by clear * - c; revert c; decide,
      show nxt (nxt c) = up c 2 by clear * - c; revert c; decide]
  unfold outR
  rw [right_at, ← around c]
  unfold three
  rw [e2, e5, rhalf_at]

/-- An entry of a device's result: the epilogue of the sum of the devices' partial products. -/
theorem outAt_at (c : Dev nD) (i : Fin 256) (j : Fin 1024) : outAt m c (ix2 i j) = silu (∑ d : Dev nD, part m d c (ix2 i j)) := by
  unfold outAt
  by_cases h : j.val < 512
  · rw [dif_pos (show ((ix2 i j : S256x1024.Idx) 1).val < 512 from h)]
    exact outL_at m c i ⟨j.val, h⟩
  · rw [dif_neg (show ¬ ((ix2 i j : S256x1024.Idx) 1).val < 512 from h)]
    refine (outR_at m c i ⟨j.val - 512, by omega⟩).trans (congrArg silu (Finset.sum_congr rfl fun d _ => ?_))
    congr 2
    exact Fin.ext (show 512 + (j.val - 512) = j.val by omega)

/-! ## The reference -/

/-- A sum over the columns of the whole matrix is a sum over the devices of sums over their columns. -/
theorem sum_by_device (f : Fin 1024 → EReal) :
    ∑ k, f k = ∑ d : Fin 4, ∑ t : Fin 256, f ⟨d.val * 256 + t.val, by omega⟩ := by
  rw [← Equiv.sum_comp (finProdFinEquiv (m := 4) (n := 256)) f, Fintype.sum_prod_type]
  refine Finset.sum_congr rfl fun d _ => Finset.sum_congr rfl fun t _ => congrArg f (Fin.ext ?_)
  show t.val + 256 * d.val = d.val * 256 + t.val
  omega

/-- The reference's result, as its run leaves it. -/
def refOut (X W : FVec Ideal Cert.ReferenceIdeal.S1024x1024 .bf16) : FVec Ideal Cert.ReferenceIdeal.S1024x1024 .f32 :=
  fun i => siluQuot (∑ k : Fin 1024, X (ix2 (i 0) k) * W (ix2 k (i 1)))

/-- One device's block of the reference's result is what the ring leaves there. -/
theorem out_block (X W : FVec Ideal Cert.ReferenceIdeal.S1024x1024 .bf16)
    (hx : ∀ c : Dev nD, xs m c = Layout.block ⟨2, ![1024, 256]⟩ ⟨2, ![1024, 1024]⟩ 1 4 c X)
    (hw : ∀ c : Dev nD, ws m c = Layout.block ⟨2, ![256, 1024]⟩ ⟨2, ![1024, 1024]⟩ 0 4 c W) (c : Dev nD) :
    outAt m c = Layout.block ⟨2, ![256, 1024]⟩ ⟨2, ![1024, 1024]⟩ 0 4 c (refOut X W) := by
  funext o
  obtain ⟨i, j, rfl⟩ : ∃ (i : Fin 256) (j : Fin 1024), o = ix2 i j := ⟨o 0, o 1, eq_ix2 o⟩
  refine (outAt_at m c i j).trans ((silu_eq _).trans ?_)
  rw [Layout.block_apply]
  unfold refOut
  refine congrArg siluQuot ?_
  rw [sum_by_device]
  refine Finset.sum_congr rfl fun d _ => (part_at m d c i j).trans (Finset.sum_congr rfl fun t _ => ?_)
  rw [hx d, hw d, Layout.block_apply, Layout.block_apply]
  refine congr (congrArg _ (congrArg X ?_)) (congrArg W ?_)
  · funext a; apply Fin.ext
    match a with
    | ⟨0, _⟩ => show 256 * c.val + i.val = c.val * 256 + i.val; omega
    | ⟨1, _⟩ => rfl
  · funext a; apply Fin.ext
    match a with
    | ⟨0, _⟩ => rfl
    | ⟨1, _⟩ => rfl

end Cert.KernelIdeal.Ring

namespace Cert.ReferenceIdeal.Value

open Cert.ReferenceIdeal Cert.ReferenceIdeal.Gen
open Idealize.ShloMosaic
open Idealize.ShloMosaic.ValueIdx
open Cert.KernelIdeal.Ring (refOut siluQuot clip)

/-- The reference's operations compose to that result. -/
theorem composed_eq (X W : FVec Ideal S1024x1024 .bf16) :
    Host.divf (extf .f32 (truncf .bf16 (Host.dotGeneral dot_S1024x1024_S1024x1024_S1024x1024_1_0_0_1_n_n none X W) bitsLt_bf16_f32) bitsLt_bf16_f32)
      (addf (broadcastInDim S1024x1024 ![] bcast_S_S1024x1024 (constant S_ .f32 0x3F800000#32))
        (Host.exp (Host.negf (minimumf (broadcastInDim S1024x1024 ![] bcast_S_S1024x1024 (id (constant S_ .f32 0x42700000#32)))
          (maximumf (broadcastInDim S1024x1024 ![] bcast_S_S1024x1024 (id (constant S_ .f32 0xC2700000#32)))
            (extf .f32 (truncf .bf16 (Host.dotGeneral dot_S1024x1024_S1024x1024_S1024x1024_1_0_0_1_n_n none X W) bitsLt_bf16_f32) bitsLt_bf16_f32))))))
      = refOut X W := by
  funext o
  obtain ⟨i, j, rfl⟩ : ∃ i j : Fin 1024, o = ix2 i j := ⟨o 0, o 1, eq_ix2 o⟩
  have hd : Host.dotGeneral dot_S1024x1024_S1024x1024_S1024x1024_1_0_0_1_n_n none X W (ix2 i j) = ∑ k : Fin 1024, X (ix2 i k) * W (ix2 k j) :=
    StackMember.dotGeneral_plain_apply none X W i j
  refine Eq.trans ?_ (congrArg siluQuot hd)
  unfold siluQuot clip
  rw [← Ideal.ofBits_one_f32]
  rfl

end Cert.ReferenceIdeal.Value

end
-- ==== Proof.lean ====
/-
# The certificate

The three programs run to the end, with their arguments unchanged and every semaphore back at zero; and at the extended
reals the ring of four devices leaves the blocks of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel runs, on bits. -/
theorem kernel_runs : Cert.quiescent_Kernel := fun m g _ => Cert.Kernel.Ring.run_frame m g

/-- The kernel runs, on extended reals. -/
theorem ideal_runs : Cert.quiescent_KernelIdeal := fun m g _ => Cert.KernelIdeal.Ring.run_frame m g

/-- The reference runs; it has no semaphore. -/
theorem reference_runs : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

section Values

open Cert.KernelIdeal Cert.KernelIdeal.Gen Cert.KernelIdeal.Ring

/-- The ring computes the reference's result, block by block. -/
theorem values_agree : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · have hx (c : Dev nD) : xs m c = m ((c : Thread nD τ).loc main_arg0) :=
      Memref.read_access_unit_zero (Elt Ideal) main_arg0
        (show (fun a => win0_0.index (0 : Fin 1) a * main_arg0.ty.shape.size a) = fun _ => 0 from funext fun a => by fin_cases a <;> decide)
        (fun a => by fin_cases a <;> decide) _
    have hw (c : Dev nD) : ws m c = m ((c : Thread nD τ).loc main_arg1) :=
      Memref.read_access_unit_zero (Elt Ideal) main_arg1
        (show (fun a => win0_1.index (0 : Fin 1) a * main_arg1.ty.shape.size a) = fun _ => 0 from funext fun a => by fin_cases a <;> decide)
        (fun a => by fin_cases a <;> decide) _
    have ho (c : Dev nD) : finalA m ρ c (2 : Fin 3) = outAt m c :=
      (Memref.read_access_unit_zero (Elt Ideal) main_v1
        (show (fun a => win0_2.index (0 : Fin 1) a * main_v1.ty.shape.size a) = fun _ => 0 from funext fun a => by fin_cases a <;> decide)
        (fun a => by fin_cases a <;> decide) _).symm.trans (finalA_o m ρ c)
    refine (θ_run defs _ _).mono (fun _ h c => ⟨?_, (h.1 c (0 : Fin 3)).trans (finalA_x m ρ c), (h.1 c (1 : Fin 3)).trans (finalA_w m ρ c)⟩)
      (run_main (F := Ideal) m ρ)
    exact (h.1 c (2 : Fin 3)).trans ((ho c).trans
      (out_block m _ _ (fun d => (hx d).trans (hagree d).1) (fun d => (hw d).trans (hagree d).2) c))
  · refine (θ_run Cert.ReferenceIdeal.defs _ _).mono (fun _ h => ⟨(h 0).1.trans ?_, (h 0).2⟩)
      (Cert.ReferenceIdeal.Value.run (F := Ideal) m' ρ')
    exact Cert.ReferenceIdeal.Value.composed_eq _ _

end Values

/-- Every claim. -/
theorem claim : Cert.Claim := ⟨Cert.Kernel.Gen.facts, Cert.KernelIdeal.Gen.facts, Cert.ReferenceIdeal.Gen.facts,
  kernel_runs, ideal_runs, reference_runs, trivial, values_agree⟩

end Cert.Proof

end
